-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x3x512 : Shape := ⟨4, ![16, 64, 3, 512]⟩
abbrev S16x8 : Shape := ⟨2, ![16, 8]⟩
abbrev S8x1536x1024 : Shape := ⟨3, ![8, 1536, 1024]⟩
abbrev S8x1024 : Shape := ⟨2, ![8, 1024]⟩
abbrev S16x64x3x1x512 : Shape := ⟨5, ![16, 64, 3, 1, 512]⟩
abbrev S12288x1024 : Shape := ⟨2, ![12288, 1024]⟩
abbrev S16x64x1024 : Shape := ⟨3, ![16, 64, 1024]⟩
abbrev S1x1 : Shape := ⟨2, ![1, 1]⟩
abbrev S12288x128 : Shape := ⟨2, ![12288, 128]⟩
abbrev S8x128 : Shape := ⟨2, ![8, 128]⟩
abbrev S16x64x128 : Shape := ⟨3, ![16, 64, 128]⟩
abbrev S16x64x1536 : Shape := ⟨3, ![16, 64, 1536]⟩
abbrev S1024x12288 : Shape := ⟨2, ![1024, 12288]⟩
abbrev S3 : Shape := ⟨1, ![3]⟩
abbrev S16 : Shape := ⟨1, ![16]⟩
abbrev S16x1 : Shape := ⟨2, ![16, 1]⟩
abbrev S1024x16 : Shape := ⟨2, ![1024, 16]⟩
abbrev S1024x8 : Shape := ⟨2, ![1024, 8]⟩
abbrev S1x16x8 : Shape := ⟨3, ![1, 16, 8]⟩
abbrev S1 : Shape := ⟨1, ![1]⟩
abbrev S1x1x1 : Shape := ⟨3, ![1, 1, 1]⟩
abbrev S_ : Shape := ⟨0, ![]⟩
abbrev S16x64x512 : Shape := ⟨3, ![16, 64, 512]⟩
abbrev S16x64x1x1x512 : Shape := ⟨5, ![16, 64, 1, 1, 512]⟩
abbrev S1024x1536 : Shape := ⟨2, ![1024, 1536]⟩
abbrev S1024x1 : Shape := ⟨2, ![1024, 1]⟩
abbrev S1024x128 : Shape := ⟨2, ![1024, 128]⟩

abbrev nBuf : Space → Nat
  | .hbm => 10
  | .vmem => 10
  | .smem => 1
  | _ => 0

abbrev bufTy : (tb : Table) → Fin (tcTables nBuf tb) → BufTy
  | .hbm, ⟨0, _⟩ => ⟨S16x64x3x512, .f32⟩
  | .hbm, ⟨1, _⟩ => ⟨S16x8, .f32⟩
  | .hbm, ⟨2, _⟩ => ⟨S16x8, .i32⟩
  | .hbm, ⟨3, _⟩ => ⟨S8x1536x1024, .f32⟩
  | .hbm, ⟨4, _⟩ => ⟨S8x1024, .f32⟩
  | .hbm, ⟨5, _⟩ => ⟨S16x64x3x1x512, .f32⟩
  | .hbm, ⟨6, _⟩ => ⟨S12288x1024, .f32⟩
  | .hbm, ⟨7, _⟩ => ⟨S16x64x1024, .bf16⟩
  | .hbm, ⟨8, _⟩ => ⟨S1x1, .f32⟩
  | .hbm, ⟨9, _⟩ => ⟨S_, .f32⟩
  | .local _ .vmem, ⟨0, _⟩ => ⟨S16x8, .f32⟩
  | .local _ .vmem, ⟨1, _⟩ => ⟨S16x8, .i32⟩
  | .local _ .vmem, ⟨2, _⟩ => ⟨S12288x128, .f32⟩
  | .local _ .vmem, ⟨3, _⟩ => ⟨S12288x128, .f32⟩
  | .local _ .vmem, ⟨4, _⟩ => ⟨S8x128, .f32⟩
  | .local _ .vmem, ⟨5, _⟩ => ⟨S8x128, .f32⟩
  | .local _ .vmem, ⟨6, _⟩ => ⟨S16x64x128, .bf16⟩
  | .local _ .vmem, ⟨7, _⟩ => ⟨S16x64x128, .bf16⟩
  | .local _ .vmem, ⟨8, _⟩ => ⟨S16x64x1536, .f32⟩
  | .local _ .vmem, ⟨9, _⟩ => ⟨S1024x12288, .bf16⟩
  | .local _ .smem, ⟨0, _⟩ => ⟨S1x1, .f32⟩
  | _, _ => ⟨S16x64x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_12 : BitVec 32 := 0#32
  let v52 : BitVec 1 := Scalar.cmpi .eq arg0 c0_i32_12
  let v53 : BitVec 32 := Scalar.extui v52
  let c0_i32_13 : BitVec 32 := 0#32
  let v54 : BitVec 1 := Scalar.cmpi .ne v53 c0_i32_13
  v54

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S12288x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16x64x3x512 : Shape := ⟨4, ![16, 64, 3, 512]⟩
abbrev S16x8 : Shape := ⟨2, ![16, 8]⟩
abbrev S8x1536x1024 : Shape := ⟨3, ![8, 1536, 1024]⟩
abbrev S8x1024 : Shape := ⟨2, ![8, 1024]⟩
abbrev S_ : Shape := ⟨0, ![]⟩
abbrev S16 : Shape := ⟨1, ![16]⟩
abbrev S16x1 : Shape := ⟨2, ![16, 1]⟩
abbrev S16x64x1536 : Shape := ⟨3, ![16, 64, 1536]⟩
abbrev S8x1024x16x64 : Shape := ⟨4, ![8, 1024, 16, 64]⟩
abbrev S8x16x64x1024 : Shape := ⟨4, ![8, 16, 64, 1024]⟩
abbrev S8x1x1x1024 : Shape := ⟨4, ![8, 1, 1, 1024]⟩
abbrev S16x64x1024 : Shape := ⟨3, ![16, 64, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16x64x3x512, .f32⟩
  | .hbm, ⟨1, _⟩ => ⟨S16x8, .f32⟩
  | .hbm, ⟨2, _⟩ => ⟨S16x8, .i32⟩
  | .hbm, ⟨3, _⟩ => ⟨S8x1536x1024, .f32⟩
  | .hbm, ⟨4, _⟩ => ⟨S8x1024, .f32⟩
  | .hbm, ⟨5, _⟩ => ⟨S_, .i32⟩
  | .hbm, ⟨6, _⟩ => ⟨S16x8, .i32⟩
  | .hbm, ⟨7, _⟩ => ⟨S16x8, .i1⟩
  | .hbm, ⟨8, _⟩ => ⟨S_, .f32⟩
  | .hbm, ⟨9, _⟩ => ⟨S16x8, .f32⟩
  | .hbm, ⟨10, _⟩ => ⟨S_, .f32⟩
  | .hbm, ⟨11, _⟩ => ⟨S16x8, .f32⟩
  | .hbm, ⟨12, _⟩ => ⟨S16x8, .f32⟩
  | .hbm, ⟨13, _⟩ => ⟨S_, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16x1, .f32⟩
  | .hbm, ⟨19, _⟩ => ⟨S16x8, .f32⟩
  | .hbm, ⟨20, _⟩ => ⟨S16x8, .f32⟩
  | .hbm, ⟨21, _⟩ => ⟨S16x8, .f32⟩
  | .hbm, ⟨22, _⟩ => ⟨S_, .f32⟩
  | .hbm, ⟨23, _⟩ => ⟨S16, .f32⟩
  | .hbm, ⟨24, _⟩ => ⟨S16x1, .f32⟩
  | .hbm, ⟨25, _⟩ => ⟨S16x8, .f32⟩
  | .hbm, ⟨26, _⟩ => ⟨S16x8, .f32⟩
  | .hbm, ⟨27, _⟩ => ⟨S16x8, .f32⟩
  | .hbm, ⟨28, _⟩ => ⟨S_, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S16x1, .f32⟩
  | .hbm, ⟨34, _⟩ => ⟨S16x8, .f32⟩
  | .hbm, ⟨35, _⟩ => ⟨S16x8, .f32⟩
  | .hbm, ⟨36, _⟩ => ⟨S16x64x1536, .f32⟩
  | .hbm, ⟨37, _⟩ => ⟨S8x1024x16x64, .f32⟩
  | .hbm, ⟨38, _⟩ => ⟨S8x16x64x1024, .f32⟩
  | .hbm, ⟨39, _⟩ => ⟨S8x1x1x1024, .f32⟩
  | .hbm, ⟨40, _⟩ => ⟨S8x16x64x1024, .f32⟩
  | .hbm, ⟨41, _⟩ => ⟨S8x16x64x1024, .f32⟩
  | .hbm, ⟨42, _⟩ => ⟨S16x64x1024, .f32⟩
  | .hbm, ⟨43, _⟩ => ⟨S16x64x1024, .bf16⟩
  | .hbm, ⟨44, _⟩ => ⟨S16x8, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S16x64x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Proof.Same.lean ====
/- The compiled program and the idealized one are the same text: no operation was rewritten. So a run proved of the second,
   at any float values, is a run of the first. -/
module

public import proofs.«01_k».proof.Proof.Gen.Kernel
public import proofs.«01_k».proof.Proof.Gen.KernelIdeal
public import Idealize.ShloMosaic.Adequacy

@[expose] public section

noncomputable section

namespace Cert.MoE

open Idealize.ShloMosaic Idealize.SL.Sem

variable {F : FTy → Type} [FloatOps F]

/-- The two kernels' body tables agree: label by label, the same body. -/
theorem bodies_same : @Cert.Kernel.defs₀ F _ _ = @Cert.KernelIdeal.defs₀ F _ _ := by
  unfold Cert.Kernel.defs₀ Cert.KernelIdeal.defs₀
  refine congrArg _ (funext fun l => funext fun a => ?_)
  match l, a with
  | 0, (t, s) => rfl
  | ⟨_ + 1, h⟩, _ => exact absurd h (Nat.not_lt.2 (Nat.le_add_left _ _))

/-- The two body tables with their pipelines agree. -/
theorem tables_same : @Cert.Kernel.defs F _ _ = @Cert.KernelIdeal.defs F _ _ := by
  unfold Cert.Kernel.defs Cert.KernelIdeal.defs
  exact congrArg (Pipeline.defs _) bodies_same

/-- The two main functions agree. -/
theorem mains_same : (Cert.Kernel.main (F := F)) = Cert.KernelIdeal.main (F := F) := rfl

/-- What is proved of the idealized program's run holds of the compiled program's. -/
theorem run_same (s : MemSt Cert.Kernel.nD Cert.Kernel.τ Cert.Kernel.sig (Elt F))
    (Q : PUnit × MemSt Cert.Kernel.nD Cert.Kernel.τ Cert.Kernel.sig (Elt F) → Prop)
    (h : θ_run Cert.KernelIdeal.defs (onTc (τ := Cert.KernelIdeal.τ) (Cert.KernelIdeal.main (F := F))) s Q) :
    θ_run Cert.Kernel.defs (onTc (τ := Cert.Kernel.τ) (Cert.Kernel.main (F := F))) s Q :=
  Eq.mpr (congrArg₂ (fun d p => θ_run d (onTc (τ := Cert.Kernel.τ) p) s Q) tables_same mains_same) h

end Cert.MoE

end
-- ==== Proof.Kit.lean ====
/- What the two runs of the kernel body are stated over: where the body's one branch is taken, the staging and
   scratch buffers at a grid point, the body's own semaphore cells, the operand it copies from HBM, and the launch
   facts about them. The host operations around the region, the region-entry contents `V` and the windows' blocks
   `iblk` are the generated kit's. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.MoE

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main around the region: the host lines before it, the region, the host lines after it. -/
theorem mainAround (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The condition of the body's branch, from the grid coordinates. -/
abbrev firstPoint (i : grid0.Coords) : Prop := k0_cond1 i = 1#1

/-- The branch is taken at grid point 0 only. -/
theorem firstPoint_iff : ∀ t : Fin cfg0.N, firstPoint (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have h8 : t.val = 0 ↔ t.val % 8 = 0 := by omega
    rw [h8]
    simp only [firstPoint, k0_cond1, e0]
    word_cmp
   : ∀ t : Fin grid0.N, firstPoint (grid0.coords t) ↔ t.val = 0)

/-- Window `w`'s current staging buffer at grid point `t`. -/
abbrev stg0 (t : Fin cfg0.N) : Memref sig .tc .vmem S16x8 .f32 := win0_0.stage (cfg0.slots t 0)
abbrev stg1 (t : Fin cfg0.N) : Memref sig .tc .vmem S16x8 .i32 := win0_1.stage (cfg0.slots t 1)
abbrev stg2 (t : Fin cfg0.N) : Memref sig .tc .vmem S12288x128 .f32 := win0_2.stage (cfg0.slots t 2)
abbrev stg3 (t : Fin cfg0.N) : Memref sig .tc .vmem S8x128 .f32 := win0_3.stage (cfg0.slots t 3)
abbrev stg4 (t : Fin cfg0.N) : Memref sig .tc .vmem S16x64x128 .bf16 := win0_4.stage (cfg0.slots t 4)
abbrev stg5 (t : Fin cfg0.N) : Memref sig .tc .smem S1x1 .f32 := win0_5.stage (cfg0.slots t 5)

/-- The scratch the copies fill (the flattened samples) and the scratch carried between points (the gated samples). -/
abbrev flatM : Memref sig .tc .vmem S16x64x1536 .f32 := Memref.whole cc0_scratch0
abbrev xgM : Memref sig .tc .vmem S1024x12288 .bf16 := Memref.whole cc0_scratch1

/-- The operand left in HBM, which the body copies into scratch itself. -/
abbrev hbmM : Memref sig .tc .hbm S16x64x3x1x512 .f32 := Memref.whole main_v0

/-- The contents type of a memref's buffer on core `c`. -/
abbrev BufOf (c : Dev nD) {sp : Space} {S : Shape} {e : EltTy} (M : Memref sig .tc sp S e) : Type := Buf (Elt F) (M.view.loc (c : Thread nD τ))

/-- A memref's buffer on core `c`, held whole at contents `f`. -/
abbrev holds (c : Dev nD) {sp : Space} {S : Shape} {e : EltTy} (M : Memref sig .tc sp S e) (f : BufOf (F := F) c M) : sProp 𝕄 :=
  M.view.loc (c : Thread nD τ) ↦{fullShare} f

/-- The body's three DMA semaphore cells. -/
abbrev cells : Fin 3 → SemLoc sig := fun j => (![SemLoc.dma 9, SemLoc.dma 10, SemLoc.dma 11] : Fin 3 → SemLoc sig) j

/-- None of them is a window's. -/
theorem cells_facts : Pipeline.OwnSemFacts spec0 cells := by decide

/-- The cells at zero, listed. -/
theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 9) 0 ∗ semVal ((c : Thread nD τ), SemLoc.dma 10) 0 ∗ semVal ((c : Thread nD τ), SemLoc.dma 11) 0) := by
  rw [Pipeline.ownSems0_eq_of_list c cells [0, 1, 2] (by decide) (by decide)]; rfl

/-- The one HBM operand the body moves. -/
def moved : Finset (Ref sig .tc) := {main_v0}

/-- It is unscoped and no window's array. -/
theorem moved_sub : moved ⊆ Pipeline.restRefs sig spec0 := by decide

/-- The host line after the region does not touch it. -/
theorem tail_but : ∀ ops ∈ ([hostOps1] : List (List (HloOp τ sig (Elt F)))), ∀ op ∈ ops,
    op.bufs ⊆ Pipeline.tailRefsBut sig Pipeline.Prefetch.none spec0 moved := by
  intro ops hops op hop
  simp only [List.mem_cons, List.mem_nil_iff, or_false] at hops
  rcases hops with rfl
  refine Pipeline.sub_tailRefsBut Pipeline.Prefetch.none spec0 moved op ((List.forall_iff_forall_mem.mp hostOps1_sub) op hop) (fun j => j.elim0) ?_
  simp only [hostOps1, List.mem_cons, List.mem_nil_iff, or_false] at hop
  rcases hop with rfl
  intro b hb
  simp only [moved, Finset.mem_singleton] at hb
  subst hb
  simp only [StableHlo.reshape_bufs, StableHlo.unary_bufs, Finset.mem_insert, Finset.mem_singleton, not_or]
  and_intros <;> exact StableHlo.devRef_ne_of_ne (by decide)

/-- Its contents at launch, held. -/
theorem moved_eq (c : Dev nD) :
    (bigSep moved (fun b => ((c : Thread nD τ).loc b) ↦{fullShare} V m c b) : sProp 𝕄) = iprop(holds c hbmM (V m c main_v0)) := by
  rw [BI.bigSep_eq_bigSepL_of_eq [main_v0] (by decide) (by decide)]; rfl

/-- What the launch hands the body beside the windows: both scratch buffers at some contents, the generator register,
    the cells at zero and the HBM operand at its launch contents. -/
theorem launch_eq (c : Dev nD) :
    (Pipeline.ΦD cells spec0 moved (V m) c : sProp 𝕄)
      = iprop(iprop((∃ d, owns (c : Thread nD τ) flatM fullShare d) ∗ (∃ d, owns (c : Thread nD τ) xgM fullShare d)) ∗ (∃ r, prngReg c r) ∗ iprop(semVal ((c : Thread nD τ), SemLoc.dma 9) 0 ∗ semVal ((c : Thread nD τ), SemLoc.dma 10) 0 ∗ semVal ((c : Thread nD τ), SemLoc.dma 11) 0) ∗ iprop(holds c hbmM (V m c main_v0))) := by
  rw [Pipeline.ΦD_eq, scopedRest0_eq, cells_eq, moved_eq]; simp only [flatM, xgM, owns_whole]; try rfl

end Cert.MoE

end
-- ==== Proof.RunFirst.lean ====
/- The kernel body at the first grid point: it writes the guide loss, copies the three channels of the samples into
   scratch, and fills the gated samples before it computes its output block. -/
module

public import proofs.«01_k».proof.Proof.Kit

@[expose] public section

set_option maxRecDepth 16384

noncomputable section

namespace Cert.MoE

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option sl_exec.dmaWindow true in
set_option sl_exec.dmaWindowSet true in
set_option maxHeartbeats 1000000 in
/-- The body at the first point, on whole buffers: with the inputs at `x0 … x3`, the outputs and both scratch buffers at
    anything, the cells at zero and the HBM operand at `fh`, it ends with the inputs, the cells and the operand as they
    were and with the stores it made, as lists of pieces, written into the output block, the guide loss and the gated
    samples; the lists are found by running it. -/
def runFirst (c : Dev nD) (i : grid0.Coords) (arg1 : Memref sig .tc .vmem S16x8 .f32) (harg1 : arg1.IsWhole) (arg2 : Memref sig .tc .vmem S16x8 .i32) (harg2 : arg2.IsWhole) (arg4 : Memref sig .tc .vmem S12288x128 .f32) (harg4 : arg4.IsWhole) (arg5 : Memref sig .tc .vmem S8x128 .f32) (harg5 : arg5.IsWhole) (arg6 : Memref sig .tc .vmem S16x64x128 .bf16) (harg6 : arg6.IsWhole) (arg7 : Memref sig .tc .smem S1x1 .f32) (harg7 : arg7.IsWhole) (arg8 : Memref sig .tc .vmem S16x64x1536 .f32) (harg8 : arg8.IsWhole) (arg9 : Memref sig .tc .vmem S1024x12288 .bf16) (harg9 : arg9.IsWhole) (hc0 : firstPoint i)
    (x0 : Vec F S16x8 .f32) (x1 : Vec F S16x8 .i32) (x2 : Vec F S12288x128 .f32) (x3 : Vec F S8x128 .f32) (fh : BufOf (F := F) c hbmM) :
    Σ' (L4 : List (View.Piece (Elt F) S16x64x128 .bf16)), Σ' (L5 : List (View.Piece (Elt F) S1x1 .f32)), Σ' (LX : List (View.Piece (Elt F) S1024x12288 .bf16)), { LF : List (View.Piece (Elt F) S16x64x1536 .f32) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 9) 0 ∗ semVal ((c : Thread nD τ), SemLoc.dma 10) 0 ∗ semVal ((c : Thread nD τ), SemLoc.dma 11) 0 ∗ holds c hbmM fh ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LF) ∗ (∃ f, arg9.view.loc (c : Thread nD τ) ↦[arg9.view.set]{fullShare} arg9.view.writes (Elt F) f LX) ∗ semVal ((c : Thread nD τ), SemLoc.dma 9) 0 ∗ semVal ((c : Thread nD τ), SemLoc.dma 10) 0 ∗ semVal ((c : Thread nD τ), SemLoc.dma 11) 0 ∗ holds c hbmM fh ∗ (∃ W', owes (c : Thread nD τ) 0 W')) -∗ K ⟨⟩))
          ⊢ wp frame (wpE (defs₀ (F := F)) Variants.none c none) Set.univ (cc0__moe_kernel i arg1 harg1 arg2 harg2 (Memref.whole main_v0) (Memref.isWhole_whole _) arg4 harg4 arg5 harg5 arg6 harg6 arg7 harg7 arg8 harg8 arg9 harg9 cc0_scratch2) K } := by
  refine ⟨?_, ?_, ?_, ?_, fun W K => ?run⟩
  case run =>
    simp only [cc0__moe_kernel_eq_skeleton]; unfold cc0__moe_kernel_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hq0, Hq1, Hq2, Hh0, HW, Hk⟩
    obtain rfl := harg1.eq_unread hf0; obtain rfl := harg2.eq_unread hf1; obtain rfl := harg4.eq_unread hf2; obtain rfl := harg5.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    isplitl [Hq0]; · iexact Hq0
    isplitl [Hq1]; · iexact Hq1
    isplitl [Hq2]; · iexact Hq2
    isplitl [Hh0]; · iexact Hh0
    iexists _; iexact HW

end Cert.MoE

end
-- ==== Proof.RunLater.lean ====
/- The kernel body at a later grid point: it computes its output block from the gated samples the first point left. -/
module

public import proofs.«01_k».proof.Proof.Kit

@[expose] public section

set_option maxRecDepth 16384

noncomputable section

namespace Cert.MoE

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body at a later point, on whole buffers: with the inputs at `x0 … x3`, the output block at anything and the gated
    samples at `xg`, it ends with the inputs and the gated samples as they were and with the store it made, as a list of
    pieces, written into the output block; the list is found by running it. -/
def runLater (c : Dev nD) (i : grid0.Coords) (arg1 : Memref sig .tc .vmem S16x8 .f32) (harg1 : arg1.IsWhole) (arg2 : Memref sig .tc .vmem S16x8 .i32) (harg2 : arg2.IsWhole) (arg4 : Memref sig .tc .vmem S12288x128 .f32) (harg4 : arg4.IsWhole) (arg5 : Memref sig .tc .vmem S8x128 .f32) (harg5 : arg5.IsWhole) (arg6 : Memref sig .tc .vmem S16x64x128 .bf16) (harg6 : arg6.IsWhole) (arg7 : Memref sig .tc .smem S1x1 .f32) (harg7 : arg7.IsWhole) (arg8 : Memref sig .tc .vmem S16x64x1536 .f32) (harg8 : arg8.IsWhole) (arg9 : Memref sig .tc .vmem S1024x12288 .bf16) (harg9 : arg9.IsWhole) (hc0 : ¬firstPoint i)
    (x0 : Vec F S16x8 .f32) (x1 : Vec F S16x8 .i32) (x2 : Vec F S12288x128 .f32) (x3 : Vec F S8x128 .f32) (xg : Vec F S1024x12288 .bf16) :
    { L4 : List (View.Piece (Elt F) S16x64x128 .bf16) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ (∃ d, owns (c : Thread nD τ) arg6 fullShare d) ∗ owns (c : Thread nD τ) arg9 fullShare xg ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg9 fullShare xg ∗ (∃ W', owes (c : Thread nD τ) 0 W')) -∗ K ⟨⟩))
          ⊢ wp frame (wpE (defs₀ (F := F)) Variants.none c none) Set.univ (cc0__moe_kernel i arg1 harg1 arg2 harg2 (Memref.whole main_v0) (Memref.isWhole_whole _) arg4 harg4 arg5 harg5 arg6 harg6 arg7 harg7 arg8 harg8 arg9 harg9 cc0_scratch2) K } := by
  refine ⟨?_, fun W K => ?run⟩
  case run =>
    simp only [cc0__moe_kernel_eq_skeleton]; unfold cc0__moe_kernel_skel
    simp only [k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs1, %hfs1, HS1⟩, HW, Hk⟩
    obtain rfl := harg1.eq_unread hf0; obtain rfl := harg2.eq_unread hf1; obtain rfl := harg4.eq_unread hf2; obtain rfl := harg5.eq_unread hf3; obtain rfl := harg9.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS1]
    · iexists _; isplitr; · ipureintro; exact harg9.read_unread _
      iexact HS1
    iexists _; iexact HW

end Cert.MoE

end
-- ==== Proof.Triple.lean ====
/- What the body leaves, named: the flattened samples, the gated samples, the output block and the guide loss as functions
   of the operands, and the two runs of the body restated with these contents. -/
module

public import proofs.«01_k».proof.Proof.RunFirst
public import proofs.«01_k».proof.Proof.RunLater
public import Idealize.ShloMosaic.Lib.Pipeline.Value
public import Idealize.ShloMosaic.Lib.Pipeline.ValueKit.Basic

@[expose] public section

set_option maxRecDepth 16384

noncomputable section

namespace Cert.MoE

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Channel `k` of the samples as the copy reads it out of the operand in HBM. -/
abbrev chan0 (c : Dev nD) (fh : BufOf (F := F) c hbmM) : Vec F S16x64x512 .f32 := runFirst.sl.dma4 c fh
abbrev chan1 (c : Dev nD) (fh : BufOf (F := F) c hbmM) : Vec F S16x64x512 .f32 := runFirst.sl.dma4_1 c fh
abbrev chan2 (c : Dev nD) (fh : BufOf (F := F) c hbmM) : Vec F S16x64x512 .f32 := runFirst.sl.dma4_2 c fh

/-- The three copies as pieces of the flattened samples, side by side along the last axis. -/
abbrev flatPieces (c : Dev nD) (fh : BufOf (F := F) c hbmM) : List (View.Piece (Elt F) S16x64x1536 .f32) :=
  [⟨Rect.unit ![0, 0, 1024] S16x64x512.size inb_S16x64x1536_S16x64x512_0_0_1024, chan2 c fh⟩,
    ⟨Rect.unit ![0, 0, 512] S16x64x512.size inb_S16x64x1536_S16x64x512_0_0_512, chan1 c fh⟩,
    ⟨Rect.unit ![0, 0, 0] S16x64x512.size inb_S16x64x1536_S16x64x512_0_0_0, chan0 c fh⟩]

/-- The flattened samples. -/
def flatV (c : Dev nD) (fh : BufOf (F := F) c hbmM) : Vec F S16x64x1536 .f32 := View.canon (flatPieces c fh)

/-- The gate of every token at every expert, from the gates `g` of the sixteen rows of logits. -/
abbrev tokenGates (g : FVec F S16x8 .f32) : FVec F S1024x8 .f32 := k0_pay1 g k0_pay18 k0_pay19

/-- The gated samples, expert by expert along the last axis, as pieces. -/
abbrev gatedPieces (g : FVec F S16x8 .f32) (x : Vec F S16x64x1536 .f32) : List (View.Piece (Elt F) S1024x12288 .bf16) :=
  [⟨Rect.unit ![0, 10752] ![1024, 1536] inb_S1024x12288_S1024x1536_0_10752, k0_pay3 g k0_pay18 k0_pay19 (k0_pay6 x)⟩,
    ⟨Rect.unit ![0, 9216] ![1024, 1536] inb_S1024x12288_S1024x1536_0_9216, k0_pay2 (k0_pay14 (tokenGates g) (k0_pay6 x))⟩,
    ⟨Rect.unit ![0, 7680] S1024x1536.size inb_S1024x12288_S1024x1536_0_7680, k0_pay13 (tokenGates g) (k0_pay6 x)⟩,
    ⟨Rect.unit ![0, 6144] S1024x1536.size inb_S1024x12288_S1024x1536_0_6144, k0_pay12 (tokenGates g) (k0_pay6 x)⟩,
    ⟨Rect.unit ![0, 4608] S1024x1536.size inb_S1024x12288_S1024x1536_0_4608, k0_pay11 (tokenGates g) (k0_pay6 x)⟩,
    ⟨Rect.unit ![0, 3072] S1024x1536.size inb_S1024x12288_S1024x1536_0_3072, k0_pay10 (tokenGates g) (k0_pay6 x)⟩,
    ⟨Rect.unit ![0, 1536] S1024x1536.size inb_S1024x12288_S1024x1536_0_1536, k0_pay9 (tokenGates g) (k0_pay6 x)⟩,
    ⟨Rect.unit ![0, 0] S1024x1536.size inb_S1024x12288_S1024x1536_0_0, k0_pay8 (k0_pay7 (tokenGates g) x)⟩]

/-- The gated samples. -/
def gatedV (g : FVec F S16x8 .f32) (x : Vec F S16x64x1536 .f32) : Vec F S1024x12288 .bf16 := View.canon (gatedPieces g x)

/-- The output block, from the logits `x0`, the masks `x1`, the weight block `x2`, the bias block `x3` and the gated
    samples. -/
def outV (x0 : Vec F S16x8 .f32) (x1 : Vec F S16x8 .i32) (x2 : Vec F S12288x128 .f32) (x3 : Vec F S8x128 .f32)
    (xg : Vec F S1024x12288 .bf16) : Vec F S16x64x128 .bf16 :=
  k0_pay4 (k0_pay17 x0 x1) k0_pay18 k0_pay19 x2 xg x3

/-- The guide loss, from the logits and the masks. -/
def lossV (x0 : Vec F S16x8 .f32) (x1 : Vec F S16x8 .i32) : Vec F S1x1 .f32 := fun _ => k0_pay5 (k0_pay15 x1) (k0_pay16 x0)

/-- A load of the whole of a whole buffer whose contents read `X` reads `X`. -/
theorem load_whole {sp : Space} {S : Shape} {e : EltTy} {M : Memref sig .tc sp S e} (h : M.IsWhole) {off : Fin S.rank → ℕ}
    (inb : ∀ a, off a + S.size a ≤ S.size a) (h0 : off = fun _ => 0) (X : S.Idx → Elt F e) :
    View.readAt (Elt F) M.view (Rect.unit off S.size inb).toLoadRect (h.unread X) = X := by
  rw [View.readAt_eq_ld, h.read_unread, View.ld_unit_zero h0]

/-- Two, or three, zero offsets. -/
theorem zeros2 : (![0, 0] : Fin 2 → ℕ) = fun _ => 0 := by funext a; fin_cases a <;> rfl
theorem zeros3 : (![0, 0, 0] : Fin 3 → ℕ) = fun _ => 0 := by funext a; fin_cases a <;> rfl

/-- One store of a whole buffer leaves its payload, over any contents. -/
theorem read_store_whole {sp : Space} {S : Shape} {e : EltTy} (M : Memref sig .tc sp S e) {off : Fin S.rank → ℕ}
    (inb : ∀ a, off a + S.size a ≤ S.size a) (h0 : off = fun _ => 0) (f : M.view.ty.Contents (Elt F)) (w : S.Idx → Elt F e) :
    M.view.read (Elt F) (M.view.writes (Elt F) f [⟨Rect.unit off S.size inb, w⟩]) = w := by
  rw [View.read_writes_eq_canon _ _ _ (fun y => ⟨_, List.mem_singleton_self _, View.mem_set_unit_zero h0 inb y⟩),
    View.canon_unit_zero h0]

/-- The gated samples' pieces cover their buffer. -/
theorem gated_cover (g : FVec F S16x8 .f32) (x : Vec F S16x64x1536 .f32) (y : S1024x12288.Idx) :
    ∃ p ∈ gatedPieces g x, y ∈ p.1.set :=
  View.cover_of_tiledL (gatedPieces g x) S1024x1536.size (by sl_kernel_rfl) y

set_option maxHeartbeats 800000 in
/-- The body at the first point, with what it leaves named. -/
theorem first_triple (c : Dev nD) (i : grid0.Coords) (arg1 : Memref sig .tc .vmem S16x8 .f32) (harg1 : arg1.IsWhole) (arg2 : Memref sig .tc .vmem S16x8 .i32) (harg2 : arg2.IsWhole) (arg4 : Memref sig .tc .vmem S12288x128 .f32) (harg4 : arg4.IsWhole) (arg5 : Memref sig .tc .vmem S8x128 .f32) (harg5 : arg5.IsWhole) (arg6 : Memref sig .tc .vmem S16x64x128 .bf16) (harg6 : arg6.IsWhole) (arg7 : Memref sig .tc .smem S1x1 .f32) (harg7 : arg7.IsWhole) (arg8 : Memref sig .tc .vmem S16x64x1536 .f32) (harg8 : arg8.IsWhole) (arg9 : Memref sig .tc .vmem S1024x12288 .bf16) (harg9 : arg9.IsWhole) (hc0 : firstPoint i)
    (x0 : Vec F S16x8 .f32) (x1 : Vec F S16x8 .i32) (x2 : Vec F S12288x128 .f32) (x3 : Vec F S8x128 .f32) (fh : BufOf (F := F) c hbmM)
    (W : Waits sig Unit) (K : PUnit → sProp 𝕄) :
    iprop(owns (c : Thread nD τ) arg1 fullShare x0 ∗ owns (c : Thread nD τ) arg2 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 9) 0 ∗ semVal ((c : Thread nD τ), SemLoc.dma 10) 0 ∗ semVal ((c : Thread nD τ), SemLoc.dma 11) 0 ∗ holds c hbmM fh ∗ owes (c : Thread nD τ) 0 W
        ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare (outV x0 x1 x2 x3 (gatedV (k0_pay17 x0 x1) (flatV c fh))) ∗ owns (c : Thread nD τ) arg7 fullShare (lossV x0 x1) ∗ (∃ d, owns (c : Thread nD τ) arg8 fullShare d) ∗ owns (c : Thread nD τ) arg9 fullShare (gatedV (k0_pay17 x0 x1) (flatV c fh)) ∗ semVal ((c : Thread nD τ), SemLoc.dma 9) 0 ∗ semVal ((c : Thread nD τ), SemLoc.dma 10) 0 ∗ semVal ((c : Thread nD τ), SemLoc.dma 11) 0 ∗ holds c hbmM fh ∗ (∃ W', owes (c : Thread nD τ) 0 W')) -∗ K ⟨⟩))
      ⊢ wp frame (wpE (defs₀ (F := F)) Variants.none c none) Set.univ (cc0__moe_kernel i arg1 harg1 arg2 harg2 (Memref.whole main_v0) (Memref.isWhole_whole _) arg4 harg4 arg5 harg5 arg6 harg6 arg7 harg7 arg8 harg8 arg9 harg9 cc0_scratch2) K := by
  have hr2 : runFirst.sl.r_2 c arg1 harg1 arg2 harg2 x0 x1 = k0_pay17 x0 x1 := by
    unfold runFirst.sl.r_2
    rw [load_whole harg1 inb_S16x8_S16x8_0_0 zeros2, load_whole harg2 inb_S16x8_S16x8_0_0 zeros2]
  have hflat : runFirst.sl.v106 c arg8 fh = flatV c fh := by
    unfold runFirst.sl.v106
    rw [View.readCov_eq_canon']
    exact View.ld_unit_zero zeros3 _ _
  have hpieces : runFirst.sl.HS1_8 c arg1 harg1 arg2 harg2 arg8 x0 x1 fh = gatedPieces (k0_pay17 x0 x1) (flatV c fh) := by
    unfold runFirst.sl.HS1_8 runFirst.sl.r_6 runFirst.sl.r_5 runFirst.sl.r_4
    rw [hr2, hflat]
  have hxg : runFirst.sl.v58 c arg1 harg1 arg2 harg2 arg8 arg9 x0 x1 fh = gatedV (k0_pay17 x0 x1) (flatV c fh) := by
    unfold runFirst.sl.v58
    rw [View.readCov_eq_canon', hpieces]
    exact View.ld_unit_zero zeros2 _ _
  have h4 : ∀ f, arg6.view.read (Elt F) (arg6.view.writes (Elt F) f (runFirst c i arg1 harg1 arg2 harg2 arg4 harg4 arg5 harg5 arg6 harg6 arg7 harg7 arg8 harg8 arg9 harg9 hc0 x0 x1 x2 x3 fh).1)
      = outV x0 x1 x2 x3 (gatedV (k0_pay17 x0 x1) (flatV c fh)) := fun f => by
    dsimp only [runFirst]
    rw [hr2, hxg, load_whole harg4 inb_S12288x128_S12288x128_0_0 zeros2, load_whole harg5 inb_S8x128_S8x128_0_0 zeros2]
    exact read_store_whole arg6 inb_S16x64x128_S16x64x128_0_0_0 zeros3 f _
  have h5 : ∀ f, arg7.view.read (Elt F) (arg7.view.writes (Elt F) f (runFirst c i arg1 harg1 arg2 harg2 arg4 harg4 arg5 harg5 arg6 harg6 arg7 harg7 arg8 harg8 arg9 harg9 hc0 x0 x1 x2 x3 fh).2.1)
      = lossV x0 x1 := fun f => by
    dsimp only [runFirst]
    unfold runFirst.sl.r runFirst.sl.r_1
    rw [load_whole harg1 inb_S16x8_S16x8_0_0 zeros2, load_whole harg2 inb_S16x8_S16x8_0_0 zeros2]
    exact read_store_whole arg7 inb_S1x1_S1x1_0_0 zeros2 f _
  have hx : ∀ f, arg9.view.read (Elt F) (arg9.view.writes (Elt F) f (runFirst c i arg1 harg1 arg2 harg2 arg4 harg4 arg5 harg5 arg6 harg6 arg7 harg7 arg8 harg8 arg9 harg9 hc0 x0 x1 x2 x3 fh).2.2.1)
      = gatedV (k0_pay17 x0 x1) (flatV c fh) := fun f => by
    dsimp only [runFirst]
    rw [hpieces]
    exact View.read_writes_eq_canon _ _ _ (gated_cover _ _)
  refine BI.BIBase.Entails.trans ?_ ((runFirst c i arg1 harg1 arg2 harg2 arg4 harg4 arg5 harg5 arg6 harg6 arg7 harg7 arg8 harg8 arg9 harg9 hc0 x0 x1 x2 x3 fh).2.2.2.2 W K)
  iintro ⟨H0, H1, H2, H3, H4, H5, HS0, HS1, Hq0, Hq1, Hq2, Hh0, HW, Hk⟩
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [Hq0]; · iexact Hq0
  isplitl [Hq1]; · iexact Hq1
  isplitl [Hq2]; · iexact Hq2
  isplitl [Hh0]; · iexact Hh0
  isplitl [HW]; · iexact HW
  iintro ⟨H0, H1, H2, H3, ⟨%f4, H4⟩, ⟨%f5, H5⟩, ⟨%f8, HS0⟩, ⟨%f9, HS1⟩, Hq0, Hq1, Hq2, Hh0, HW⟩
  iapply Hk
  isplitl [H0]; · iexact H0
  isplitl [H1]; · iexact H1
  isplitl [H2]; · iexact H2
  isplitl [H3]; · iexact H3
  isplitl [H4]
  · unfold owns; iexists _; isplitr; swap; · iexact H4
    ipureintro; exact h4 f4
  isplitl [H5]
  · unfold owns; iexists _; isplitr; swap; · iexact H5
    ipureintro; exact h5 f5
  isplitl [HS0]
  · unfold owns; iexists _, _; isplitr; swap; · iexact HS0
    ipureintro; rfl
  isplitl [HS1]
  · unfold owns; iexists _; isplitr; swap; · iexact HS1
    ipureintro; exact hx f9
  isplitl [Hq0]; · iexact Hq0
  isplitl [Hq1]; · iexact Hq1
  isplitl [Hq2]; · iexact Hq2
  isplitl [Hh0]; · iexact Hh0
  iexact HW

/-- The body at a later point, with what it leaves named. -/
theorem later_triple (c : Dev nD) (i : grid0.Coords) (arg1 : Memref sig .tc .vmem S16x8 .f32) (harg1 : arg1.IsWhole) (arg2 : Memref sig .tc .vmem S16x8 .i32) (harg2 : arg2.IsWhole) (arg4 : Memref sig .tc .vmem S12288x128 .f32) (harg4 : arg4.IsWhole) (arg5 : Memref sig .tc .vmem S8x128 .f32) (harg5 : arg5.IsWhole) (arg6 : Memref sig .tc .vmem S16x64x128 .bf16) (harg6 : arg6.IsWhole) (arg7 : Memref sig .tc .smem S1x1 .f32) (harg7 : arg7.IsWhole) (arg8 : Memref sig .tc .vmem S16x64x1536 .f32) (harg8 : arg8.IsWhole) (arg9 : Memref sig .tc .vmem S1024x12288 .bf16) (harg9 : arg9.IsWhole) (hc0 : ¬firstPoint i)
    (x0 : Vec F S16x8 .f32) (x1 : Vec F S16x8 .i32) (x2 : Vec F S12288x128 .f32) (x3 : Vec F S8x128 .f32) (xg : Vec F S1024x12288 .bf16)
    (W : Waits sig Unit) (K : PUnit → sProp 𝕄) :
    iprop(owns (c : Thread nD τ) arg1 fullShare x0 ∗ owns (c : Thread nD τ) arg2 fullShare x1 ∗ owns (c : Thread nD τ) arg4 fullShare x2 ∗ owns (c : Thread nD τ) arg5 fullShare x3 ∗ (∃ d, owns (c : Thread nD τ) arg6 fullShare d) ∗ owns (c : Thread nD τ) arg9 fullShare xg ∗ owes (c : Thread nD τ) 0 W
        ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare (outV x0 x1 x2 x3 xg) ∗ owns (c : Thread nD τ) arg9 fullShare xg ∗ (∃ W', owes (c : Thread nD τ) 0 W')) -∗ K ⟨⟩))
      ⊢ wp frame (wpE (defs₀ (F := F)) Variants.none c none) Set.univ (cc0__moe_kernel i arg1 harg1 arg2 harg2 (Memref.whole main_v0) (Memref.isWhole_whole _) arg4 harg4 arg5 harg5 arg6 harg6 arg7 harg7 arg8 harg8 arg9 harg9 cc0_scratch2) K := by
  have hr2 : runLater.sl.r_2 c arg1 harg1 arg2 harg2 x0 x1 = k0_pay17 x0 x1 := by
    unfold runLater.sl.r_2
    rw [load_whole harg1 inb_S16x8_S16x8_0_0 zeros2, load_whole harg2 inb_S16x8_S16x8_0_0 zeros2]
  have h4 : ∀ f, arg6.view.read (Elt F) (arg6.view.writes (Elt F) f (runLater c i arg1 harg1 arg2 harg2 arg4 harg4 arg5 harg5 arg6 harg6 arg7 harg7 arg8 harg8 arg9 harg9 hc0 x0 x1 x2 x3 xg).1)
      = outV x0 x1 x2 x3 xg := fun f => by
    dsimp only [runLater]
    rw [hr2, load_whole harg4 inb_S12288x128_S12288x128_0_0 zeros2, load_whole harg5 inb_S8x128_S8x128_0_0 zeros2,
      load_whole harg9 inb_S1024x12288_S1024x12288_0_0 zeros2]
    exact read_store_whole arg6 inb_S16x64x128_S16x64x128_0_0_0 zeros3 f _
  refine BI.BIBase.Entails.trans ?_ ((runLater c i arg1 harg1 arg2 harg2 arg4 harg4 arg5 harg5 arg6 harg6 arg7 harg7 arg8 harg8 arg9 harg9 hc0 x0 x1 x2 x3 xg).2 W K)
  iintro ⟨H0, H1, H2, H3, H4, HS1, HW, Hk⟩
  isplitl [H0]; · iexact H0
  isplitl [H1]; · iexact H1
  isplitl [H2]; · iexact H2
  isplitl [H3]; · iexact H3
  isplitl [H4]; · iexact H4
  isplitl [HS1]; · iexact HS1
  isplitl [HW]; · iexact HW
  iintro ⟨H0, H1, H2, H3, ⟨%f4, H4⟩, HS1, HW⟩
  iapply Hk
  isplitl [H0]; · iexact H0
  isplitl [H1]; · iexact H1
  isplitl [H2]; · iexact H2
  isplitl [H3]; · iexact H3
  isplitl [H4]
  · unfold owns; iexists _; isplitr; swap; · iexact H4
    ipureintro; exact h4 f4
  isplitl [HS1]; · iexact HS1
  iexact HW

end Cert.MoE

end
-- ==== Proof.Launch.lean ====
/- The idealized program's launch: what each grid point finds and leaves, the body's obligation, and the run — it ends with
   every counter at zero, its arguments unchanged and its two results at named contents. -/
module

public import proofs.«01_k».proof.Proof.Triple
public import Idealize.ShloMosaic.Lib.Claim

@[expose] public section

set_option maxRecDepth 16384

noncomputable section

namespace Cert.MoE

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The logits and the masks as the region's first point finds them (their block is the whole array). -/
abbrev logits (c : Dev nD) : Vec F S16x8 .f32 := iblk m c 0 t0_0
abbrev masks (c : Dev nD) : Vec F S16x8 .i32 := iblk m c 1 t0_0

/-- The gated samples the first point leaves for the later ones. -/
abbrev gated (c : Dev nD) : Vec F S1024x12288 .bf16 := gatedV (k0_pay17 (logits m c) (masks m c)) (flatV c (V m c main_v0))

/-- What the body keeps between points: before the first point what the launch hands over; after a point the flattened
    samples at anything, the gated samples at their contents, the register, the cells at zero and the HBM operand. -/
def keep (c : Dev nD) : ℕ → sProp 𝕄
  | 0 => Pipeline.ΦD cells spec0 moved (V m) c
  | _ + 1 => iprop(iprop((∃ d, owns (c : Thread nD τ) flatM fullShare d) ∗ owns (c : Thread nD τ) xgM fullShare (gated m c)) ∗ (∃ r, prngReg c r) ∗ iprop(semVal ((c : Thread nD τ), SemLoc.dma 9) 0 ∗ semVal ((c : Thread nD τ), SemLoc.dma 10) 0 ∗ semVal ((c : Thread nD τ), SemLoc.dma 11) 0) ∗ iprop(holds c hbmM (V m c main_v0)))

/-- The region's proof data: the arrays as the region finds them; after a point each input's buffer at its block, the
    output block and the guide loss at their contents; what is kept; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outV (iblk m c 0 t) (iblk m c 1 t) (iblk m c 2 t) (iblk m c 3 t) (gated m c)
    | ⟨5, _⟩ => lossV (logits m c) (masks m c)
  Φ t := keep m c t.val
  q _ := fullShare
  owed _ := 0

/-- The data's arrays are what the region finds. -/
theorem A_eq (c : Dev nD) (w : Fin cfg0.W) : (dats m 0 c).A w = V m c (Pipeline.arrRef spec0 w) := by
  dsimp only [dats]

/-- What a point leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t
    = outV (iblk m c 0 t) (iblk m c 1 t) (iblk m c 2 t) (iblk m c 3 t) (gated m c) := by dsimp only [dats]
theorem after_5 (c : Dev nD) (t : Fin cfg0.N) : (dats m 0 c).after 5 t = lossV (logits m c) (masks m c) := by dsimp only [dats]

/-- What a point finds in each input's buffer: its block. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The guide loss's window is stored into at the first point only. -/
theorem live_5 (t : Fin cfg0.N) (h : t.val = 0) : cfg0.idle 5 (grid0.coords t) = false := by
  show (!(k0_cond1 (grid0.coords t) == 1#1)) = false
  rw [(firstPoint_iff t).mpr h]; rfl
theorem idle_5 (t : Fin cfg0.N) (h : t.val ≠ 0) : cfg0.idle 5 (grid0.coords t) = true := by
  show (!(k0_cond1 (grid0.coords t) == 1#1)) = true
  have := fun e => h ((firstPoint_iff t).mp e)
  simpa [firstPoint] using this

/-- At every later point the guide loss's buffer still holds what the first point stored. -/
theorem before_5 (c : Dev nD) : ∀ (n : ℕ) (t : Fin cfg0.N) (_ : t.val = n + 1) (d), (dats m 0 c).before 5 t d = lossV (logits m c) (masks m c)
  | n, t, ht, d => by
    have hN : t.val < 8 := lt_of_lt_of_eq t.isLt (show cfg0.N = 8 from N_0)
    have hfl : (cfg0.win 5).flush ⟨t.val - 1, Nat.lt_of_le_of_lt (Nat.sub_le _ _) t.isLt⟩ = false := by
      rw [Bool.eq_false_iff]; intro h
      have := (flush0_5 ⟨t.val - 1, Nat.lt_of_le_of_lt (Nat.sub_le _ _) t.isLt⟩).mp h
      simp only at this; omega
    rw [(dats m 0 c).before_of_pos 5 t (by omega) ((cfg0.win 5).fetch_out rfl t) d, hfl, if_neg Bool.false_ne_true]
    unfold Dat.left
    match n, ht with
    | 0, ht =>
      rw [live_5 ⟨t.val - 1, Nat.lt_of_le_of_lt (Nat.sub_le _ _) t.isLt⟩ (by simp only; omega)]
      show (dats m 0 c).kept 5 _ d = _
      exact after_5 m c _
    | n + 1, ht =>
      rw [idle_5 ⟨t.val - 1, Nat.lt_of_le_of_lt (Nat.sub_le _ _) t.isLt⟩ (by simp only; omega)]
      exact before_5 c n ⟨t.val - 1, Nat.lt_of_le_of_lt (Nat.sub_le _ _) t.isLt⟩ (by simp only; omega) d

/-- So whatever the obligation asks of it at a later point, that suffices. -/
theorem leaves_5 (c : Dev nD) (t : Fin cfg0.N) (h : t.val ≠ 0) :
    owns (c : Thread nD τ) (stg5 t) fullShare (lossV (logits m c) (masks m c)) ⊢ ((dats m 0 c).leavesExact 5 t : sProp 𝕄) := by
  unfold Dat.leavesExact
  rw [idle_5 t h]
  cases hf : (cfg0.win 5).flush t
  · show _ ⊢ iprop(∃ d, owns (c : Thread nD τ) (stg5 t) fullShare ((dats m 0 c).before 5 t d))
    iintro H
    iexists (lossV (logits m c) (masks m c))
    rw [before_5 m c (t.val - 1) t (by omega)]
    iexact H
  · show _ ⊢ owns (c : Thread nD τ) (stg5 t) fullShare ((dats m 0 c).after 5 t)
    rw [after_5]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  unfold bodyPre bodyPost bodyAt0
  simp only [before_0, before_1, before_2, before_3]
  rw [show (dats m 0 c).leavesExact 0 t = owns (c : Thread nD τ) (stg0 t) fullShare (iblk m c 0 t) from by rw [← after_0],
    show (dats m 0 c).leavesExact 1 t = owns (c : Thread nD τ) (stg1 t) fullShare (iblk m c 1 t) from by rw [← after_1],
    show (dats m 0 c).leavesExact 2 t = owns (c : Thread nD τ) (stg2 t) fullShare (iblk m c 2 t) from by rw [← after_2],
    show (dats m 0 c).leavesExact 3 t = owns (c : Thread nD τ) (stg3 t) fullShare (iblk m c 3 t) from by rw [← after_3],
    show (dats m 0 c).leavesExact 4 t = owns (c : Thread nD τ) (stg4 t) fullShare (outV (iblk m c 0 t) (iblk m c 1 t) (iblk m c 2 t) (iblk m c 3 t) (gated m c)) from by rw [← after_4]]
  unfold Dat.owesAt Pipeline.owesWithin
  rw [show (dats m 0 c).owed t.castSucc = 0 from rfl, show (dats m 0 c).owed t.succ = 0 from rfl,
    show (dats m 0 c).Φ t.succ = keep m c (t.val + 1) from rfl, show (dats m 0 c).Φ t.castSucc = keep m c t.val from rfl]
  by_cases h0 : t.val = 0
  · have ht : t = t0_0 := Fin.ext h0
    rw [show (dats m 0 c).leavesExact 5 t = owns (c : Thread nD τ) (stg5 t) fullShare (lossV (logits m c) (masks m c)) from by
      unfold Dat.leavesExact; rw [live_5 t h0, after_5]]
    rw [h0]; unfold keep; rw [launch_eq]
    iintro ⟨⟨⟨HS0, HS1⟩, Hg, ⟨Hq0, Hq1, Hq2⟩, Hh0⟩, ⟨%W, -, HW⟩, ⟨%d0, H0⟩, ⟨%d1, H1⟩, ⟨%d2, H2⟩, ⟨%d3, H3⟩, ⟨%d4, H4⟩, ⟨%d5, H5⟩⟩
    iapply (first_triple c (grid0.coords t) _ _ _ _ _ _ _ _ _ _ _ _ _ _ _ _ ((firstPoint_iff t).mpr h0) (iblk m c 0 t) (iblk m c 1 t) (iblk m c 2 t) (iblk m c 3 t) (V m c main_v0) W _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [Hq0]; · iexact Hq0
    isplitl [Hq1]; · iexact Hq1
    isplitl [Hq2]; · iexact Hq2
    isplitl [Hh0]; · iexact Hh0
    isplitl [HW]; · iexact HW
    rw [ht]
    iintro ⟨H0, H1, H2, H3, H4, H5, HS0, HS1, Hq0, Hq1, Hq2, Hh0, ⟨%W', HW'⟩⟩
    isplitl [HS0 HS1 Hg Hq0 Hq1 Hq2 Hh0]
    · isplitl [HS0 HS1]
      · isplitl [HS0]; · iexact HS0
        iexact HS1
      isplitl [Hg]; · iexact Hg
      isplitl [Hq0 Hq1 Hq2]
      · isplitl [Hq0]; · iexact Hq0
        isplitl [Hq1]; · iexact Hq1
        iexact Hq2
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
  · obtain ⟨n, hn⟩ : ∃ n, t.val = n + 1 := ⟨t.val - 1, by omega⟩
    simp only [before_5 m c n t hn]
    rw [hn]; unfold keep
    iintro ⟨⟨⟨HS0, HS1⟩, Hg, ⟨Hq0, Hq1, Hq2⟩, Hh0⟩, ⟨%W, -, HW⟩, ⟨%d0, H0⟩, ⟨%d1, H1⟩, ⟨%d2, H2⟩, ⟨%d3, H3⟩, ⟨%d4, H4⟩, ⟨%d5, H5⟩⟩
    iapply (later_triple c (grid0.coords t) _ _ _ _ _ _ _ _ _ _ _ _ _ _ _ _ (fun h => h0 ((firstPoint_iff t).mp h)) (iblk m c 0 t) (iblk m c 1 t) (iblk m c 2 t) (iblk m c 3 t) (gated m c) W _)
    isplitl [H0]; · iexact H0
    isplitl [H1]; · iexact H1
    isplitl [H2]; · iexact H2
    isplitl [H3]; · iexact H3
    isplitl [H4]; · iexists _; iexact H4
    isplitl [HS1]; · iexact HS1
    isplitl [HW]; · iexact HW
    iintro ⟨H0, H1, H2, H3, H4, HS1, ⟨%W', HW'⟩⟩
    isplitl [HS0 HS1 Hg Hq0 Hq1 Hq2 Hh0]
    · isplitl [HS0 HS1]
      · isplitl [HS0]; · iexact HS0
        iexact HS1
      isplitl [Hg]; · iexact Hg
      isplitl [Hq0 Hq1 Hq2]
      · isplitl [Hq0]; · iexact Hq0
        isplitl [Hq1]; · iexact Hq1
        iexact Hq2
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iapply (leaves_5 m c t h0)
    iexact H5

/-- The body table's row at a point is the body there. -/
theorem row_eq (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- After the last point, what is kept is what the launch handed over, some contents forgotten. -/
theorem keep_last (c : Dev nD) : (dats m 0 c).Φ (Fin.last cfg0.N) ⊢ (Pipeline.ΦD cells spec0 moved (V m) c : sProp 𝕄) := by
  rw [show (dats m 0 c).Φ (Fin.last cfg0.N) = keep m c (7 + 1) from congrArg (keep m c) (show cfg0.N = 8 from N_0), launch_eq]
  unfold keep
  iintro ⟨⟨HS0, HS1⟩, H⟩
  isplitl [HS0 HS1]
  · isplitl [HS0]; · iexact HS0
    iexists _; iexact HS1
  iexact H

set_option backward.isDefEq.respectTransparency.types false in
set_option maxHeartbeats 800000 in
/-- The launch: every array ends at what the data says, every other buffer at what the host line after the region leaves,
    and every semaphore counter at zero. -/
theorem run_named : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 cells defs₀ Variants.none cells_facts moved moved_sub m ρ main
    (hbody := fun c => (body_obligation m c).loose) (hshare := fun c => (dats m 0 c).share_full fun _ => rfl)
    (howed := fun _ _ => rfl) (V₀ := V0 m) (opss := [hostOps1]) (hsub := tail_but) (hfresh := sfx_fresh) (hkeep := sfx_keeps)
    (hmain := mainAround m Variants.none) (hA := A_eq m) (hin := fun c => .rfl) (hout := keep_last m)

end Cert.MoE

end
-- ==== Proof.Results.lean ====
/- What the idealized program's run leaves, read from its launch: the arguments as given, the output array put together from
   the output blocks of the grid points, and the guide loss of the first point. -/
module

public import proofs.«01_k».proof.Proof.Launch
public import Idealize.ShloMosaic.Lib.Claim
public import Idealize.ShloMosaic.Lib.Pointwise
public import Idealize.ShloMosaic.Lib.Pipeline.ValueKit.Geometry

@[expose] public section

set_option maxRecDepth 16384

noncomputable section

namespace Cert.MoE

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

variable (m : (ℓ : Loc nD τ sig) → Buf (Elt F) ℓ) (ρ : Dev nD → PrngReg)

/-- The samples reach the region as the host line's reshape leaves them: a unit axis put in before the last one. -/
theorem samples_eq (c : Dev nD) : V m c main_v0
    = shapeCast S16x64x3x1x512 (m ((c.tc : Thread nD τ).loc main_arg0)) shapeCasts_S16x64x3x512_S16x64x3x1x512 := by
  show StableHlo.after hostOps0 _ (Proc.devRef .tc _) = _
  after_results
  rfl

/-- The weights reach the region as the host line's reshape leaves them: the experts' rows one below the other. -/
theorem weights_eq (c : Dev nD) : V m c main_v1
    = shapeCast S12288x1024 (m ((c.tc : Thread nD τ).loc main_arg3)) shapeCasts_S8x1536x1024_S12288x1024 := by
  show StableHlo.after hostOps0 _ (Proc.devRef .tc _) = _
  after_results
  rfl

/-- The samples' argument is written by no host line and staged by no window. -/
theorem samples_kept (c : Dev nD) :
    Pipeline.afterTail₀ cfgs (dats m) 0 (V0 m) [hostOps1] c main_arg0 = m ((c.tc : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- The weights' argument is written by no host line and staged by no window. -/
theorem weights_kept (c : Dev nD) :
    Pipeline.afterTail₀ cfgs (dats m) 0 (V0 m) [hostOps1] c main_arg3 = m ((c.tc : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- The guide loss's result is the reshape of the loss window's final array. -/
theorem loss_tail (c : Dev nD) :
    Pipeline.afterTail₀ cfgs (dats m) 0 (V0 m) [hostOps1] c main_v3
      = shapeCast S_ ((dats m 0 c).arrAt 5 cfg0.N) shapeCasts_S1x1_S_ := by
  unfold Pipeline.afterTail₀
  simp only [hostOps1, List.flatten_cons, List.flatten_nil, List.append_nil]
  after_results
  rw [Pipeline.withArrays_arr spec0 launch0.win.arr_inj c (V0 m c) _ 5]
  rfl

/-- The grid point that computes an output column: the columns go out in blocks of 128. -/
abbrev colPoint (i : S16x64x1024.Idx) : Fin cfg0.N := ⟨(i 2).val / 128, by
  have h : cfg0.N = 8 := N_0
  have := (i 2).isLt
  rw [h]; show _ < 8; have h2 : (i 2).val < 1024 := (i 2).isLt; omega⟩

/-- The output element: its column's grid point, at the column's place in the block. -/
def outAt (c : Dev nD) : Vec F S16x64x1024 .bf16 := fun i =>
  outV (iblk m c 0 (colPoint i)) (iblk m c 1 (colPoint i)) (iblk m c 2 (colPoint i)) (iblk m c 3 (colPoint i)) (gated m c)
    (ix3 (n0 := 16) (n1 := 64) (n2 := 128) (i 0) (i 1) ⟨(i 2).val % 128, Nat.mod_lt _ (by decide)⟩)

/-- The output's block index at a point: the point itself, along the columns. -/
theorem index_4 : ∀ t : Fin cfg0.N, win0_4.index t = ![0, 0, t.val] := by decide +kernel

/-- The final output array. -/
theorem out_final (c : Dev nD) : (dats m 0 c).arrAt 4 cfg0.N = outAt m c := by
  refine (dats m 0 c).arrAt_eq_of_covers 4 _ (by decide +kernel) fun t hf y => ?_
  blk_simp
  rw [after_4]
  have hN : t.val < 8 := lt_of_lt_of_eq t.isLt N_0
  have hy0 := (y 0).isLt
  have hy1 := (y 1).isLt
  have hy2 : (y 2).val < 128 := (y 2).isLt
  have e0 : ((win0_4.blk t).view.emb y 0).val = (y 0).val := by blk_simp [index_4]
  have e1 : ((win0_4.blk t).view.emb y 1).val = (y 1).val := by blk_simp [index_4]
  have e2 : ((win0_4.blk t).view.emb y 2).val = t.val * 128 + (y 2).val := by blk_simp [index_4]
  have hp : colPoint ((win0_4.blk t).view.emb y) = t := Fin.ext (by
    show ((win0_4.blk t).view.emb y 2).val / 128 = t.val
    rw [e2]; omega)
  unfold outAt
  rw [hp]
  refine congrArg _ (funext fun a => Fin.ext ?_)
  fin_cases a
  · exact e0.symm
  · exact e1.symm
  · show (y 2).val = ((win0_4.blk t).view.emb y 2).val % 128
    rw [e2]; omega

/-- The final guide loss. -/
theorem loss_final (c : Dev nD) : (dats m 0 c).arrAt 5 cfg0.N = lossV (logits m c) (masks m c) := by
  refine (dats m 0 c).arrAt_eq_of_covers 5 _ (by decide +kernel) fun t hf y => ?_
  blk_simp
  rw [after_5]
  rfl

/-- The run: each result at its contents, each argument as given, every counter at zero. -/
theorem run_results : θ_run defs (onTc (τ := τ) (main (F := F))) (s₀ m ρ) (fun r => (∀ c : Dev nD,
      r.2.mem ((c.tc : Thread nD τ).loc main_v2_0) = outAt m c
      ∧ r.2.mem ((c.tc : Thread nD τ).loc main_v3) = (fun _ => k0_pay5 (k0_pay15 (masks m c)) (k0_pay16 (logits m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1.out_eq c 4).trans (out_final m c),
     (h.1.rest_eq c main_v3 (Pipeline.mem_restRefs_of main_v3 (by decide) (by decide))).trans
      ((loss_tail m c).trans (by rw [loss_final]; rfl)),
     (h.1.rest_eq c main_arg0 (Pipeline.mem_restRefs_of main_arg0 (by decide) (by decide))).trans (samples_kept m c),
     (h.1.in_eq c 0 rfl).trans (V_main_arg1 m c),
     (h.1.in_eq c 1 rfl).trans (V_main_arg2 m c),
     (h.1.rest_eq c main_arg3 (Pipeline.mem_restRefs_of main_arg3 (by decide) (by decide))).trans (weights_kept m c),
     (h.1.in_eq c 3 rfl).trans (V_main_arg4 m c)⟩, h.2⟩) (run_named m ρ)

end Cert.MoE

end
-- ==== Proof.Gates.lean ====
/- The gates and the guide loss: what the kernel computes of the logits and the masks is what the reference computes, at the
   extended reals. -/
module

public import proofs.«01_k».proof.Proof.Gen.KernelIdeal.Skeleton
public import proofs.«01_k».proof.Proof.Gen.ReferenceIdeal.Read
public import Idealize.ShloMosaic.Lib.Pointwise
public import Idealize.ShloMosaic.Lib.KernelVsHost

@[expose] public section

set_option maxRecDepth 16384

noncomputable section

namespace Cert.MoE

open Cert.KernelIdeal Cert.KernelIdeal.Gen Cert.ReferenceIdeal.Read
open Idealize.ShloMosaic Idealize.ShloMosaic.Tactic

/-- A sample and an expert name an index, and every index is named so. -/
theorem exists_ix2 (j : S16x8.Idx) : ∃ (b : Fin 16) (e : Fin 8), j = ix2 b e := ⟨j 0, j 1, Shape.idx_ext₂ rfl rfl⟩

/-- The mask: one where the word is one, zero elsewhere. -/
theorem mask_eq (x : IVec S16x8 32) : k0_pay15 (F := Ideal) x = val_main_v4 (F := Ideal) x := by
  funext j
  pointwise [k0_pay15, val_main_v4, val_main_v1, val_main_v0, val_main_v2, val_main_v3, val_main_c, val_main_cst, val_main_cst_0]
  rcases BitVec.eq_zero_or_eq_one (IntOp.cmpi .eq (x j) 1#32) with h | h <;> rw [h] <;>
    simp [Scalar.select, FloatOps.sitofp]

/-- A mask's value is zero or one. -/
theorem mask_bit (x : IVec S16x8 32) (j : S16x8.Idx) : k0_pay15 (F := Ideal) x j = 0 ∨ k0_pay15 (F := Ideal) x j = 1 := by
  pointwise [k0_pay15]
  rcases BitVec.eq_zero_or_eq_one (IntOp.cmpi .eq (x j) 1#32) with h | h <;> rw [h] <;>
    simp [FloatOps.sitofp]

/-- A row's largest logit. -/
def rowMax (x : FVec Ideal S16x8 .f32) (b : Fin 16) : EReal :=
  Finset.univ.fold max (Ideal.ofBits .f32 0xFF800000#32) fun k : Fin 8 => x (ix2 b k)

/-- Every logit of a row is at most the row's largest. -/
theorem le_rowMax (x : FVec Ideal S16x8 .f32) (b : Fin 16) (e : Fin 8) : x (ix2 b e) ≤ rowMax x b :=
  (Finset.le_fold_max _).2 (.inr ⟨e, Finset.mem_univ _, le_rfl⟩)

/-- The reference's maximum of a row, which is also taken with −∞, is the row's largest logit. -/
theorem rowmax_eq (x : FVec Ideal S16x8 .f32) (i : S16.Idx) : val_main_v7 (F := Ideal) x i = rowMax x (i 0) := by
  unfold val_main_v7 val_main_v5 val_main_cst_1
  rw [hostReduce_maximumf_eq_multiReduction x 0xFF800000#32 _ _ reduces_S16x8_S16 (.inl rfl) rfl]
  pointwise [val_main_v6, val_main_cst_2]
  exact max_eq_right ((Finset.le_fold_max _).2 (.inl le_rfl))

/-- A logit's exponential, its row's maximum taken off. -/
def expo (x : FVec Ideal S16x8 .f32) (b : Fin 16) (e : Fin 8) : EReal := Ideal.exp (x (ix2 b e) - rowMax x b)

/-- The kernel's softmax of the logits, read at a sample and an expert. -/
theorem softmax_at (x : FVec Ideal S16x8 .f32) (b : Fin 16) (e : Fin 8) :
    k0_pay16 (F := Ideal) x (ix2 b e) = Ideal.div (expo x b e) (∑ k, expo x b k) := by
  unfold expo rowMax
  pointwise [k0_pay16]

/-- The reference's exponential of a logit, its row's maximum taken off, is the same. -/
theorem expo_eq (x : FVec Ideal S16x8 .f32) (b : Fin 16) (e : Fin 8) :
    val_main_v11 (F := Ideal) x (ix2 b e) = expo x b e := by
  rw [val_main_v11_apply, val_main_v10_apply, val_main_v9_apply, val_main_v8_apply, rowmax_eq]
  rfl

/-- The softmax of the logits. -/
theorem softmax_eq (x : FVec Ideal S16x8 .f32) : k0_pay16 (F := Ideal) x = val_main_v15 (F := Ideal) x := by
  funext j
  obtain ⟨b, e, rfl⟩ := exists_ix2 j
  have hk : ∀ k, idx_main_v12 (idx_main_v13 (idx_main_v14 (ix2 b e))) k = ix2 b k := fun k => Shape.idx_ext₂ rfl rfl
  rw [softmax_at, val_main_v15_apply, val_main_v14_apply, val_main_v13_apply, val_main_v12_apply, val_main_cst_3_apply]
  simp only [hk, expo_eq]
  rw [Ideal.hostDivf_def, Ideal.ofBits_def, Ideal.ofBits_zero_f32, zero_add]

/-- A gate: a masked weight over the sum of its row's, the sum first made larger by a small number. -/
theorem gates_at (x : FVec Ideal S16x8 .f32) (w : IVec S16x8 32) (b : Fin 16) (e : Fin 8) :
    k0_pay17 (F := Ideal) x w (ix2 b e) =
      Ideal.div (k0_pay16 (F := Ideal) x (ix2 b e) * k0_pay15 (F := Ideal) w (ix2 b e))
        ((∑ k : Fin 8, k0_pay16 (F := Ideal) x (ix2 b k) * k0_pay15 (F := Ideal) w (ix2 b k)) +
          Ideal.ofBits .f32 0x3089705F#32) := by
  pointwise [k0_pay17]

/-- The gates. -/
theorem gates_eq (x : FVec Ideal S16x8 .f32) (w : IVec S16x8 32) :
    k0_pay17 (F := Ideal) x w = val_main_v22 (F := Ideal) x w := by
  funext j
  obtain ⟨b, e, rfl⟩ := exists_ix2 j
  have hk : ∀ k, idx_main_v17 (idx_main_v20 (idx_main_v21 (ix2 b e))) k = ix2 b k := fun k => Shape.idx_ext₂ rfl rfl
  rw [gates_at, softmax_eq, mask_eq, val_main_v22_apply, val_main_v21_apply, val_main_v20_apply, val_main_v19_apply,
    val_main_v18_apply, val_main_v17_apply, val_main_cst_4_apply, val_main_cst_5_apply]
  simp only [hk, val_main_v16_apply, Ideal.hostDivf_def, Ideal.ofBits_def, Ideal.ofBits_zero_f32, Ideal.addf_def, zero_add,
    Ideal.mulf_def]

/-- The sum of the masked softmax over the samples and the experts, as the kernel takes it. -/
theorem total_eq (y : FVec Ideal S16x8 .f32) (i : S1.Idx) :
    multiReduction .add [1, 2] S1 (shapeCast S1x16x8 y shapeCasts_S16x8_S1x16x8) 0x00000000#32 reduces_S1x16x8_S1 (.inl rfl) rfl i
      = ∑ j : S16x8.Idx, y j := by
  refine (Ideal.multiReduction_add_total _ _ _ (by decide) _ _ _).trans ?_
  unfold shapeCast
  exact Equiv.sum_comp _ y

/-- The guide loss. -/
theorem guide_eq (x : FVec Ideal S16x8 .f32) (w : IVec S16x8 32) (i : S_.Idx) :
    k0_pay5 (F := Ideal) (k0_pay15 w) (k0_pay16 x) = val_main_v36 (F := Ideal) x w i := by
  have ht : extractAt ![0, 0, 0] (shapeCast S1x1x1 (multiReduction .add [1, 2] S1 (shapeCast S1x16x8
      (mulf (F := Ideal) (φ := .f32) (val_main_v15 (F := Ideal) x) (val_main_v4 (F := Ideal) w)) shapeCasts_S16x8_S1x16x8) 0x00000000#32 reduces_S1x16x8_S1 (.inl rfl) rfl)
      shapeCasts_S1_S1x1x1) inpos_S1x1x1_p0_0_0 = ∑ j : S16x8.Idx, val_main_v31 (F := Ideal) x w j := by
    exact total_eq (mulf (F := Ideal) (φ := .f32) (val_main_v15 (F := Ideal) x) (val_main_v4 (F := Ideal) w)) _
  rw [val_main_v36_apply, val_main_v35_apply, val_main_v34_apply, val_main_v33_apply, val_main_v32_apply, softmax_eq, mask_eq,
    val_main_cst_6_apply, val_main_cst_7_apply, val_main_cst_8_apply, val_main_cst_9_apply]
  unfold k0_pay5
  dsimp only
  rw [ht]
  simp only [Ideal.ofBits_def, Ideal.ofBits_zero_f32, zero_add]
  rfl

/-! ### The gates are nonnegative and finite -/

/-- A value that is a nonnegative real number. -/
def Fin0 (x : EReal) : Prop := 0 ≤ x ∧ x ≠ ⊤

/-- A sum of two nonnegative real numbers is one. -/
theorem Fin0.add {x y : EReal} (hx : Fin0 x) (hy : Fin0 y) : Fin0 (x + y) :=
  ⟨add_nonneg hx.1 hy.1, EReal.add_ne_top hx.2 hy.2⟩

/-- A finite sum of nonnegative real numbers is one. -/
theorem Fin0.sum {n : Nat} {f : Fin n → EReal} (h : ∀ k, Fin0 (f k)) : Fin0 (∑ k, f k) :=
  Finset.sum_induction f Fin0 (fun _ _ => Fin0.add) ⟨le_rfl, EReal.zero_ne_top⟩ fun k _ => h k

/-- A nonnegative real number over something positive, possibly +∞, is a nonnegative real number. -/
theorem Fin0.div {x y : EReal} (hx : Fin0 x) (hy : 0 < y) : Fin0 (Ideal.div x y) := by
  obtain ⟨hx0, hx1⟩ := hx
  unfold Ideal.div
  rw [if_neg hy.ne']
  refine ⟨EReal.mul_nonneg hx0 (EReal.inv_nonneg_of_nonneg hy.le), ?_⟩
  lift x to ℝ using ⟨hx1, fun h => by simp [h] at hx0⟩
  induction y with
  | bot => simp
  | top => simp
  | coe r => rw [← EReal.coe_inv, ← EReal.coe_mul]; exact EReal.coe_ne_top _

/-- The exponential of a logit, its row's maximum taken off, is a nonnegative real number, even if the logit or the maximum is
    infinite. -/
theorem expo_fin (x : FVec Ideal S16x8 .f32) (b : Fin 16) (e : Fin 8) : Fin0 (expo x b e) := by
  have h : x (ix2 b e) - rowMax x b ≠ ⊤ := by
    have h0 : x (ix2 b e) - rowMax x b ≤ 0 :=
      (EReal.sub_le_sub (le_rowMax x b e) le_rfl).trans EReal.sub_self_le_zero
    exact fun h => absurd (h ▸ h0) (by simp)
  unfold expo
  generalize x (ix2 b e) - rowMax x b = d at h
  induction d using EReal.rec with
  | bot => exact ⟨le_rfl, EReal.zero_ne_top⟩
  | top => exact absurd rfl h
  | coe r => exact ⟨EReal.coe_nonneg.2 (Real.exp_pos r).le, EReal.coe_ne_top _⟩

/-- A row of the softmax is nonnegative and finite, or it is all −∞ (a row whose largest logit is infinite). -/
theorem softmax_row (x : FVec Ideal S16x8 .f32) (b : Fin 16) :
    (∀ e : Fin 8, Fin0 (k0_pay16 (F := Ideal) x (ix2 b e))) ∨ ∀ e : Fin 8, k0_pay16 (F := Ideal) x (ix2 b e) = ⊥ := by
  have hs : Fin0 (∑ k, expo x b k) := Fin0.sum fun k => expo_fin x b k
  rcases hs.1.eq_or_lt with h0 | h0
  · refine .inr fun e => ?_
    have he : expo x b e = 0 := (Finset.sum_eq_zero_iff_of_nonneg fun k _ => (expo_fin x b k).1).1 h0.symm e (Finset.mem_univ _)
    rw [softmax_at, he, ← h0, Ideal.div, if_pos rfl, if_neg (lt_irrefl _)]
  · exact .inl fun e => by rw [softmax_at]; exact (expo_fin x b e).div h0

/-- The small number added to a row's sum is a positive real number. -/
theorem small_pos : Fin0 (Ideal.ofBits .f32 0x3089705F#32) ∧ 0 < Ideal.ofBits .f32 0x3089705F#32 := by
  have h : Ideal.ofBits .f32 0x3089705F#32 = ((9007199 * (2 ^ 53)⁻¹ : ℝ) : EReal) := by
    simp [Ideal.ofBits, Ideal.ieee]
  have hp : (0 : EReal) < ((9007199 * (2 ^ 53)⁻¹ : ℝ) : EReal) := EReal.coe_pos.2 (by positivity)
  rw [h]
  exact ⟨⟨hp.le, EReal.coe_ne_top _⟩, hp⟩

/-- Every gate is a nonnegative real number, whatever the logits. -/
theorem gate_fin (x : FVec Ideal S16x8 .f32) (w : IVec S16x8 32) (b : Fin 16) (e : Fin 8) :
    Fin0 (k0_pay17 (F := Ideal) x w (ix2 b e)) := by
  have fin : (∀ k : Fin 8, Fin0 (k0_pay16 (F := Ideal) x (ix2 b k) * k0_pay15 (F := Ideal) w (ix2 b k))) →
      Fin0 (k0_pay17 (F := Ideal) x w (ix2 b e)) := fun h => by
    rw [gates_at]
    exact (h e).div (lt_of_lt_of_le small_pos.2 (le_add_of_nonneg_left (Fin0.sum h).1))
  rcases softmax_row x b with h | h
  · refine fin fun k => ?_
    rcases mask_bit w (ix2 b k) with hm | hm <;> rw [hm]
    · rw [mul_zero]; exact ⟨le_rfl, EReal.zero_ne_top⟩
    · rw [mul_one]; exact h k
  · by_cases ha : ∃ k : Fin 8, k0_pay15 (F := Ideal) w (ix2 b k) = 1
    · obtain ⟨k, hk⟩ := ha
      have hb : (∑ k : Fin 8, k0_pay16 (F := Ideal) x (ix2 b k) * k0_pay15 (F := Ideal) w (ix2 b k)) = ⊥ := by
        rw [← Finset.add_sum_erase _ _ (Finset.mem_univ k), h k, hk, mul_one, EReal.bot_add]
      rw [gates_at, hb, EReal.bot_add, Ideal.div, if_neg EReal.bot_ne_zero, EReal.inv_bot, mul_zero]
      exact ⟨le_rfl, EReal.zero_ne_top⟩
    · refine fin fun k => ?_
      rw [(mask_bit w (ix2 b k)).resolve_right fun hk => ha ⟨k, hk⟩, mul_zero]
      exact ⟨le_rfl, EReal.zero_ne_top⟩

end Cert.MoE

end
-- ==== Proof.Gated.lean ====
/- The gated samples read at an element: a token's gate at an expert is its sample's gate, and the gated samples are the
   flattened samples times the gates, expert by expert. -/
module

public import proofs.«01_k».proof.Proof.Triple
public import Idealize.ShloMosaic.Lib.Pointwise

@[expose] public section

set_option maxRecDepth 16384

noncomputable section

namespace Cert.MoE

open Cert.KernelIdeal Cert.KernelIdeal.Gen
open Idealize.ShloMosaic Idealize.ShloMosaic.Tactic

/-- The sample a token belongs to: sixty-four tokens to a sample. -/
abbrev sampleOf (r : Fin 1024) : Fin 16 := ⟨r.val / 64, by have := r.isLt; omega⟩

/-- The floor's correction is never taken: a token's number is not negative. -/
theorem floor_flag (r : Fin 1024) (k : Fin 16) : k0_pay19 (ix2 r k) = 0#1 := by
  pointwise [k0_pay19]
  revert r
  decide +kernel

/-- The quotient's word. -/
theorem quotient_word (r : Fin 1024) (k : Fin 16) : k0_pay18 (ix2 r k) = BitVec.ofNat 32 (r.val / 64) := by
  pointwise [k0_pay18]
  revert r
  decide +kernel

/-- The words of two samples are the same only when the samples are: the row of the selection is one there, else zero. -/
theorem select_word (a b : Fin 16) (n : ℕ) (hn : n = a.val) :
    FloatOps.sitofp (F := Ideal) .f32 (BitVec.setWidth 32 (IntOp.cmpi .eq (BitVec.ofNat 32 n) (BitVec.ofNat 32 b.val)))
      = if a = b then 1 else 0 := by
  subst hn
  have h : IntOp.cmpi .eq (BitVec.ofNat 32 a.val) (BitVec.ofNat 32 b.val) = if a = b then 1#1 else 0#1 := by
    revert a b
    decide +kernel
  rw [h]
  split <;> simp [FloatOps.sitofp]

/-- A token's gate at an expert is the gate of the token's sample. -/
theorem tokenGates_at (g : FVec Ideal S16x8 .f32) (r : Fin 1024) (e : Fin 8) :
    tokenGates (F := Ideal) g (ix2 r e) = g (ix2 (sampleOf r) e) := by
  pointwise [k0_pay1]
  have h : ∀ k : Fin 16, FloatOps.sitofp (F := Ideal) .f32 (BitVec.setWidth 32 (IntOp.cmpi .eq
      (Scalar.select (k0_pay19 (ix2 r k)) (IntOp.subi (k0_pay18 (ix2 r k)) 1#32) (k0_pay18 (ix2 r k))) (BitVec.ofNat 32 k.val)))
        = if sampleOf r = k then 1 else 0 := fun k => by
    rw [floor_flag, quotient_word, ← select_word (sampleOf r) k (r.val / 64) rfl]
    rfl
  simp only [h]
  rw [Finset.sum_eq_single (sampleOf r) (fun k _ hk => by rw [if_neg (Ne.symm hk), zero_mul])
    (fun h => absurd (Finset.mem_univ _) h), if_pos rfl, one_mul]

/-- The gated samples at a token and a column of the eight experts' columns. -/
def gatedAt (g : FVec Ideal S16x8 .f32) (x : Vec Ideal S16x64x1536 .f32) (r : Fin 1024) (q : Fin 12288) : EReal :=
  tokenGates (F := Ideal) g (ix2 r ⟨q.val / 1536, by have := q.isLt; omega⟩) *
    k0_pay6 (F := Ideal) x (ix2 r ⟨q.val % 1536, Nat.mod_lt _ (by decide)⟩)

/-- The gated samples at a column of an expert's piece. -/
theorem gatedAt_piece (g : FVec Ideal S16x8 .f32) (x : Vec Ideal S16x64x1536 .f32) (e : Fin 8) (j : S1024x1536.Idx)
    (r : Fin 1024) (q : Fin 12288) (hr : r.val = (j 0).val) (hq : q.val = e.val * 1536 + (j 1).val) :
    tokenGates (F := Ideal) g (ix2 (n0 := 1024) (n1 := 8) (j 0) e) * k0_pay6 (F := Ideal) x j = gatedAt g x r q := by
  have hj : (j 1).val < 1536 := (j 1).isLt
  obtain rfl : r = j 0 := Fin.ext hr
  unfold gatedAt
  have he : (⟨q.val / 1536, by have := q.isLt; omega⟩ : Fin 8) = e := Fin.ext (by show q.val / 1536 = e.val; omega)
  have hk : j = ix2 (n0 := 1024) (n1 := 1536) (j 0) ⟨q.val % 1536, Nat.mod_lt _ (by decide)⟩ :=
    Shape.idx_ext₂ rfl (by show (j 1).val = q.val % 1536; omega)
  rw [he]
  exact congrArg (fun i => tokenGates (F := Ideal) g (ix2 (n0 := 1024) (n1 := 8) (j 0) e) * k0_pay6 (F := Ideal) x i) hk

/-- The gated samples, put together from the eight experts' pieces, at an element. -/
theorem gated_at (g : FVec Ideal S16x8 .f32) (x : Vec Ideal S16x64x1536 .f32) (r : Fin 1024) (q : Fin 12288) :
    gatedV (F := Ideal) g x (ix2 r q) = gatedAt g x r q := by
  unfold gatedV
  refine (View.canon_apply_of_pieces (fun y => gatedAt g x (y 0) (y 1)) (gatedPieces g x) ?_ _ (gated_cover g x _)).trans rfl
  simp only [List.forall_mem_cons, List.not_mem_nil, false_imp_iff, implies_true, and_true]
  refine ⟨?_, ?_, ?_, ?_, ?_, ?_, ?_, ?_⟩ <;> intro j <;>
    pointwise [k0_pay2, k0_pay3, k0_pay7, k0_pay8, k0_pay9, k0_pay10, k0_pay11, k0_pay12, k0_pay13, k0_pay14] <;>
    refine gatedAt_piece g x _ j _ _ ?_ ?_ <;> simp [Rect.emb, Rect.unit]

/-- The samples' operand at a sample, a token, a channel and a feature. -/
abbrev sampleIx (b : Fin 16) (l : Fin 64) (k : Fin 3) (f : Fin 512) : S16x64x3x1x512.Idx :=
  ix5 (n0 := 16) (n1 := 64) (n2 := 3) (n3 := 1) (n4 := 512) b l k 0 f

/-- What a copy reads of one channel, at an element. -/
theorem channel_at (X : S16x64x3x1x512.Idx → Elt Ideal .f32) (k : Fin 3) (off : Fin 5 → ℕ) (hoff : off = ![0, 0, k.val, 0, 0])
    (inb : ∀ a, off a + S16x64x1x1x512.size a ≤ S16x64x3x1x512.size a) (j : S16x64x512.Idx) :
    shapeCast S16x64x512 (fun i : S16x64x1x1x512.Idx => X ((Rect.unit (s := S16x64x3x1x512) off S16x64x1x1x512.size inb).emb i))
        squeezes_S16x64x1x1x512_S16x64x512.numel_eq j
      = X (sampleIx (j 0) (j 1) k (j 2)) := by
  subst hoff
  refine (shapeCast_apply _ _ j (ix5 (n0 := 16) (n1 := 64) (n2 := 1) (n3 := 1) (n4 := 512) (j 0) (j 1) 0 0 (j 2)) ?_).trans
    (congrArg X (funext fun a => Fin.ext ?_))
  · rewrite [Shape.rowMajor_val_five, Shape.rowMajor_val_three]
    show ((((j 0).val * 64 + (j 1).val) * 1 + 0) * 1 + 0) * 512 + (j 2).val = ((j 0).val * 64 + (j 1).val) * 512 + (j 2).val
    omega
  · rw [Rect.emb_apply]
    fin_cases a <;> simp [ix5, Rect.unit] <;> rfl

/-- The flattened samples at an element, from the operand in HBM: the last axis runs over the channels and their features. -/
theorem flat_at (c : Dev nD) (X : S16x64x3x1x512.Idx → Elt Ideal .f32) (b : Fin 16) (l : Fin 64) (f : Fin 1536) :
    flatV (F := Ideal) c X (ix3 b l f)
      = X (sampleIx b l ⟨f.val / 512, by have := f.isLt; omega⟩ ⟨f.val % 512, Nat.mod_lt _ (by decide)⟩) := by
  have key : ∀ (k : Fin 3) (inb : ∀ a, (![0, 0, k.val * 512] : Fin 3 → ℕ) a + S16x64x512.size a ≤ S16x64x1536.size a) (j : S16x64x512.Idx),
      X (sampleIx (j 0) (j 1) k (j 2)) = (fun y : S16x64x1536.Idx => X (sampleIx (y 0) (y 1)
        ⟨(y 2).val / 512, by have h : (y 2).val < 1536 := (y 2).isLt; omega⟩ ⟨(y 2).val % 512, Nat.mod_lt _ (by decide)⟩))
          ((Rect.unit (s := S16x64x1536) ![0, 0, k.val * 512] S16x64x512.size inb).emb j) := fun k inb j => by
    have hj : (j 2).val < 512 := (j 2).isLt
    have h2 : ((Rect.unit (s := S16x64x1536) ![0, 0, k.val * 512] S16x64x512.size inb).emb j 2).val = k.val * 512 + (j 2).val := by
      rw [Rect.emb_apply]; simp [Rect.unit]
    have h1 : (Rect.unit (s := S16x64x1536) ![0, 0, k.val * 512] S16x64x512.size inb).emb j 1 = j 1 :=
      Fin.ext (by rw [Rect.emb_apply]; simp [Rect.unit])
    have h0 : (Rect.unit (s := S16x64x1536) ![0, 0, k.val * 512] S16x64x512.size inb).emb j 0 = j 0 :=
      Fin.ext (by rw [Rect.emb_apply]; simp [Rect.unit])
    refine congrArg X (funext fun a => Fin.ext ?_)
    fin_cases a
    · exact congrArg Fin.val h0.symm
    · exact congrArg Fin.val h1.symm
    · show k.val = ((Rect.unit (s := S16x64x1536) ![0, 0, k.val * 512] S16x64x512.size inb).emb j 2).val / 512
      rw [h2]; omega
    · rfl
    · show (j 2).val = ((Rect.unit (s := S16x64x1536) ![0, 0, k.val * 512] S16x64x512.size inb).emb j 2).val % 512
      rw [h2]; omega
  unfold flatV
  refine (View.canon_apply_of_pieces (fun y : S16x64x1536.Idx => X (sampleIx (y 0) (y 1)
    ⟨(y 2).val / 512, by have h : (y 2).val < 1536 := (y 2).isLt; omega⟩ ⟨(y 2).val % 512, Nat.mod_lt _ (by decide)⟩))
    (flatPieces c X) ?_ _ (View.cover_of_tiledL (flatPieces c X) S16x64x512.size (by sl_kernel_rfl) _)).trans rfl
  simp only [List.forall_mem_cons, List.not_mem_nil, false_imp_iff, implies_true, and_true]
  exact ⟨fun j => (channel_at X 2 _ rfl inb_S16x64x3x1x512_S16x64x1x1x512_0_0_2_0_0 j).trans (key 2 inb_S16x64x1536_S16x64x512_0_0_1024 j),
    fun j => (channel_at X 1 _ rfl inb_S16x64x3x1x512_S16x64x1x1x512_0_0_1_0_0 j).trans (key 1 inb_S16x64x1536_S16x64x512_0_0_512 j),
    fun j => (channel_at X 0 _ rfl inb_S16x64x3x1x512_S16x64x1x1x512_0_0_0_0_0 j).trans (key 0 inb_S16x64x1536_S16x64x512_0_0_0 j)⟩

/-- The flattened samples, the sixteen samples' tokens one below the other, at an element. -/
theorem rows_at (x : Vec Ideal S16x64x1536 .f32) (r : Fin 1024) (f : Fin 1536) :
    k0_pay6 (F := Ideal) x (ix2 r f) = x (ix3 (n0 := 16) (n1 := 64) (sampleOf r) ⟨r.val % 64, Nat.mod_lt _ (by decide)⟩ f) := by
  pointwise [k0_pay6]

end Cert.MoE

end
-- ==== Proof.Equal.lean ====
/- The results are equal: the idealized program's output and guide loss, at each element, are the reference's stages of the same
   arguments. -/
module

public import proofs.«01_k».proof.Proof.Gates
public import proofs.«01_k».proof.Proof.Gated
public import proofs.«01_k».proof.Proof.Results

@[expose] public section

set_option maxRecDepth 16384

noncomputable section

namespace Cert.MoE

open Cert.KernelIdeal Cert.KernelIdeal.Gen Cert.ReferenceIdeal.Read
open Idealize.ShloMosaic Idealize.ShloMosaic.TcCoe Idealize.ShloMosaic.Tactic
open Idealize.SL.Sem

/-- A feature's channel, and its place in the channel. -/
abbrev chanOf (f : Fin 1536) : Fin 3 := ⟨f.val / 512, by have := f.isLt; omega⟩
abbrev featOf (f : Fin 1536) : Fin 512 := ⟨f.val % 512, Nat.mod_lt _ (by decide)⟩

/-- A nonnegative real number times a sum is the sum of the products, whatever the terms. -/
theorem Fin0.mul_sum {n : ℕ} {g : EReal} (hg : Fin0 g) (f : Fin n → EReal) : g * ∑ k, f k = ∑ k, g * f k := by
  induction n with
  | zero => simp
  | succ n ih => rw [Fin.sum_univ_succ, Fin.sum_univ_succ, EReal.left_distrib_of_nonneg_of_ne_top hg.1 hg.2, ih]

/-- The reference's output at an element: over the experts, the gate times the expert's row, a product of the features with the
    weights, and its bias. -/
theorem reference_at (x : FVec Ideal S16x64x3x512 .f32) (lg : FVec Ideal S16x8 .f32) (mk : IVec S16x8 32)
    (w : FVec Ideal S8x1536x1024 .f32) (bias : FVec Ideal S8x1024 .f32) (b : Fin 16) (l : Fin 64) (q : Fin 1024) :
    val_main_v30 (F := Ideal) x lg mk w bias (ix3 b l q)
      = ∑ e : Fin 8, k0_pay17 (F := Ideal) lg mk (ix2 b e) *
          ((∑ f : Fin 1536, w (ix3 e f q) * x (ix4 (n0 := 16) (n1 := 64) b l (chanOf f) (featOf f))) + bias (ix2 e q)) := by
  rw [val_main_v30_apply, Ideal.truncf_def, val_main_v29_apply, gates_eq]
  refine Finset.sum_congr rfl fun e _ => ?_
  rw [val_main_v28_apply, val_main_v27_apply, val_main_v26_apply, val_main_v25_apply, val_main_v24_apply, Ideal.addf_def]
  simp only [val_main_v23_apply]
  have h0 : lidx_main_v29 (ix3 b l q) e = ix2 b e := Shape.idx_ext₂ rfl rfl
  have h1 : idx_main_v26 (idx_main_v27 (ridx_main_v29 (ix3 b l q) e)) = ix2 e q := Shape.idx_ext₂ rfl rfl
  have h2 : ∀ f : Fin 1536, lidx_main_v24 (idx_main_v25 (ridx_main_v29 (ix3 b l q) e)) f = ix3 e f q := fun f => by
    funext a; fin_cases a <;> rfl
  have h3 : ∀ f : Fin 1536, idx_main_v23 (ridx_main_v24 (idx_main_v25 (ridx_main_v29 (ix3 b l q) e)) f)
      = ix4 (n0 := 16) (n1 := 64) b l (chanOf f) (featOf f) := fun f => by
    have hb := b.isLt
    have hl := l.isLt
    have hf := f.isLt
    funext a
    fin_cases a <;> refine Fin.ext ?_
    · show ((b.val * 64 + l.val) * 1536 + f.val) / 98304 = b.val; omega
    · show ((b.val * 64 + l.val) * 1536 + f.val) / 1536 % 64 = l.val; omega
    · show ((b.val * 64 + l.val) * 1536 + f.val) / 512 % 3 = f.val / 512; omega
    · show ((b.val * 64 + l.val) * 1536 + f.val) % 512 = f.val % 512; omega
  rw [h0, h1]
  simp only [h2, h3]

/-- A token's row among the sixteen samples' tokens. -/
abbrev rowOf (b : Fin 16) (l : Fin 64) : Fin 1024 := ⟨b.val * 64 + l.val, by have := b.isLt; have := l.isLt; omega⟩

/-- A feature's row among the experts' rows. -/
abbrev expertRow (e : Fin 8) (f : Fin 1536) : Fin 12288 :=
  ⟨e.val * 1536 + f.val, by have := e.isLt; have := f.isLt; omega⟩

/-- The output block at an element: the gated samples times the weights, and the gates times the biases. -/
theorem outV_at (x0 : Vec Ideal S16x8 .f32) (x1 : Vec Ideal S16x8 .i32) (x2 : Vec Ideal S12288x128 .f32) (x3 : Vec Ideal S8x128 .f32)
    (xg : Vec Ideal S1024x12288 .bf16) (b : Fin 16) (l : Fin 64) (q : Fin 128) :
    outV (F := Ideal) x0 x1 x2 x3 xg (ix3 b l q)
      = (∑ k : Fin 12288, xg (ix2 (rowOf b l) k) * x2 (ix2 k q))
        + ∑ e : Fin 8, tokenGates (F := Ideal) (k0_pay17 x0 x1) (ix2 (rowOf b l) e) * x3 (ix2 e q) := by
  pointwise [outV, k0_pay4]

/-- The output block is the reference's output, at an element: the gates go out of the experts' sums, being nonnegative real
    numbers. -/
theorem value_eq (x : FVec Ideal S16x64x3x512 .f32) (lg : FVec Ideal S16x8 .f32) (mk : IVec S16x8 32)
    (w : FVec Ideal S8x1536x1024 .f32) (bias : FVec Ideal S8x1024 .f32) (x2 : Vec Ideal S12288x128 .f32) (x3 : Vec Ideal S8x128 .f32)
    (xg : Vec Ideal S1024x12288 .bf16) (b : Fin 16) (l : Fin 64) (q : Fin 128) (Q : Fin 1024)
    (hxg : ∀ e f, xg (ix2 (rowOf b l) (expertRow e f))
      = k0_pay17 (F := Ideal) lg mk (ix2 b e) * x (ix4 (n0 := 16) (n1 := 64) b l (chanOf f) (featOf f)))
    (hw : ∀ e f, x2 (ix2 (expertRow e f) q) = w (ix3 e f Q)) (hb : ∀ e, x3 (ix2 e q) = bias (ix2 e Q)) :
    outV (F := Ideal) lg mk x2 x3 xg (ix3 b l q) = val_main_v30 (F := Ideal) x lg mk w bias (ix3 b l Q) := by
  have hl := l.isLt
  have hs : sampleOf (rowOf b l) = b := Fin.ext (by show (b.val * 64 + l.val) / 64 = b.val; omega)
  rw [reference_at, outV_at, Fin.sum_univ_tiles 8 1536 (by decide), ← Finset.sum_add_distrib]
  refine Finset.sum_congr rfl fun e _ => ?_
  have hg := gate_fin lg mk b e
  rw [tokenGates_at, hs, hb, EReal.left_distrib_of_nonneg_of_ne_top hg.1 hg.2, hg.mul_sum]
  refine congrArg (· + _) (Finset.sum_congr rfl fun f _ => ?_)
  rw [hxg e f, hw e f, mul_assoc]
  exact congrArg (k0_pay17 (F := Ideal) lg mk (ix2 b e) * ·) (mul_comm _ _)

variable (m : (ℓ : Loc nD τ sig) → Buf (Elt Ideal) ℓ) (c : Dev nD)

/-- The logits' block index at a point: always the whole argument. -/
theorem index_0 : ∀ t : Fin cfg0.N, win0_0.index t = ![0, 0] := by decide +kernel
/-- The masks' block index at a point: always the whole argument. -/
theorem index_1 : ∀ t : Fin cfg0.N, win0_1.index t = ![0, 0] := by decide +kernel
/-- The weights' block index at a point: the point itself, along the columns. -/
theorem index_2 : ∀ t : Fin cfg0.N, win0_2.index t = ![0, t.val] := by decide +kernel
/-- The biases' block index at a point: the point itself, along the columns. -/
theorem index_3 : ∀ t : Fin cfg0.N, win0_3.index t = ![0, t.val] := by decide +kernel

/-- Every point's block of the logits is the whole argument. -/
theorem logits_all (t : Fin cfg0.N) : iblk m c 0 t = m ((c.tc : Thread nD τ).loc main_arg1) := by
  rw [← V_main_arg1 m c]
  funext j
  have e0 : ((win0_0.blk t).view.emb j 0).val = (j 0).val := by blk_simp [index_0]
  have e1 : ((win0_0.blk t).view.emb j 1).val = (j 1).val := by blk_simp [index_0]
  blk_simp [iblk, index_0]
  exact congrArg _ (Shape.idx_ext₂ e0 e1)

/-- Every point's block of the masks is the whole argument. -/
theorem masks_all (t : Fin cfg0.N) : iblk m c 1 t = m ((c.tc : Thread nD τ).loc main_arg2) := by
  rw [← V_main_arg2 m c]
  funext j
  have e0 : ((win0_1.blk t).view.emb j 0).val = (j 0).val := by blk_simp [index_1]
  have e1 : ((win0_1.blk t).view.emb j 1).val = (j 1).val := by blk_simp [index_1]
  blk_simp [iblk, index_1]
  exact congrArg _ (Shape.idx_ext₂ e0 e1)

/-- A column of a point's block among the output's columns. -/
abbrev colOf (t : Fin cfg0.N) (q : Fin 128) : Fin 1024 :=
  ⟨t.val * 128 + q.val, by have := q.isLt; have : t.val < 8 := lt_of_lt_of_eq t.isLt N_0; omega⟩

/-- A point's block of the weights: its columns of every expert's rows. -/
theorem weights_at (t : Fin cfg0.N) (e : Fin 8) (f : Fin 1536) (q : Fin 128) :
    iblk m c 2 t (ix2 (n0 := 12288) (n1 := 128) (expertRow e f) q)
      = m ((c.tc : Thread nD τ).loc main_arg3) (ix3 (n0 := 8) (n1 := 1536) (n2 := 1024) e f (colOf t q)) := by
  have e0 : ((win0_2.blk t).view.emb (ix2 (n0 := 12288) (n1 := 128) (expertRow e f) q) 0).val = e.val * 1536 + f.val := by
    blk_simp [index_2]
  have e1 : ((win0_2.blk t).view.emb (ix2 (n0 := 12288) (n1 := 128) (expertRow e f) q) 1).val = t.val * 128 + q.val := by
    blk_simp [index_2]
  blk_simp [iblk, index_2]
  rw [weights_eq]
  refine shapeCast_apply _ _ _ _ ?_
  refine (Shape.rowMajor_val_three (d := S8x1536x1024.size) (ix3 (n0 := 8) (n1 := 1536) (n2 := 1024) e f (colOf t q))).trans ?_
  rewrite [Shape.rowMajor_val_two, e0, e1]
  rfl

/-- A point's block of the biases: its columns of every expert's. -/
theorem bias_at (t : Fin cfg0.N) (e : Fin 8) (q : Fin 128) :
    iblk m c 3 t (ix2 (n0 := 8) (n1 := 128) e q)
      = m ((c.tc : Thread nD τ).loc main_arg4) (ix2 (n0 := 8) (n1 := 1024) e (colOf t q)) := by
  rw [← V_main_arg4 m c]
  have e0 : ((win0_3.blk t).view.emb (ix2 (n0 := 8) (n1 := 128) e q) 0).val = e.val := by blk_simp [index_3]
  have e1 : ((win0_3.blk t).view.emb (ix2 (n0 := 8) (n1 := 128) e q) 1).val = t.val * 128 + q.val := by blk_simp [index_3]
  blk_simp [iblk, index_3]
  exact congrArg _ (Shape.idx_ext₂ e0 e1)

/-- The samples' operand, at an element. -/
theorem samples_at (b : Fin 16) (l : Fin 64) (k : Fin 3) (f : Fin 512) :
    V m c main_v0 (sampleIx b l k f)
      = m ((c.tc : Thread nD τ).loc main_arg0) (ix4 (n0 := 16) (n1 := 64) (n2 := 3) (n3 := 512) b l k f) := by
  rw [samples_eq]
  refine shapeCast_apply _ _ _ _ ?_
  refine (Shape.rowMajor_val_four (d := S16x64x3x512.size) (ix4 (n0 := 16) (n1 := 64) (n2 := 3) (n3 := 512) b l k f)).trans ?_
  rewrite [Shape.rowMajor_val_five]
  show ((b.val * 64 + l.val) * 3 + k.val) * 512 + f.val = (((b.val * 64 + l.val) * 3 + k.val) * 1 + 0) * 512 + f.val
  omega

/-- The gated samples at a sample's token, an expert and a feature: the sample's gate at the expert times the feature. -/
theorem gated_value (b : Fin 16) (l : Fin 64) (e : Fin 8) (f : Fin 1536) :
    gated m c (ix2 (rowOf b l) (expertRow e f))
      = k0_pay17 (F := Ideal) (m ((c.tc : Thread nD τ).loc main_arg1)) (m ((c.tc : Thread nD τ).loc main_arg2)) (ix2 b e)
        * m ((c.tc : Thread nD τ).loc main_arg0) (ix4 (n0 := 16) (n1 := 64) (n2 := 3) (n3 := 512) b l (chanOf f) (featOf f)) := by
  have hl := l.isLt
  have hf := f.isLt
  have hb : sampleOf (rowOf b l) = b := Fin.ext (by show (b.val * 64 + l.val) / 64 = b.val; omega)
  have ht : (⟨(rowOf b l).val % 64, Nat.mod_lt _ (by decide)⟩ : Fin 64) = l :=
    Fin.ext (by show (b.val * 64 + l.val) % 64 = l.val; omega)
  have he : (⟨(expertRow e f).val / 1536, by have := (expertRow e f).isLt; omega⟩ : Fin 8) = e :=
    Fin.ext (by show (e.val * 1536 + f.val) / 1536 = e.val; omega)
  have hk : (⟨(expertRow e f).val % 1536, Nat.mod_lt _ (by decide)⟩ : Fin 1536) = f :=
    Fin.ext (by show (e.val * 1536 + f.val) % 1536 = f.val; omega)
  unfold gated logits masks
  rw [gated_at, gatedAt, he, hk, tokenGates_at, rows_at, hb, ht, flat_at, samples_at, logits_all, masks_all]

/-- The idealized program's output at an element of a point's block. -/
theorem out_at (t : Fin cfg0.N) (b : Fin 16) (l : Fin 64) (q : Fin 128) :
    outV (iblk m c 0 t) (iblk m c 1 t) (iblk m c 2 t) (iblk m c 3 t) (gated m c) (ix3 b l q)
      = val_main_v30 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (ix3 b l (colOf t q)) := by
  rw [logits_all, masks_all]
  exact value_eq _ _ _ _ _ _ _ _ b l q (colOf t q) (gated_value m c b l) (fun e f => weights_at m c t e f q)
    (fun e => bias_at m c t e q)

/-- The idealized program's output is the reference's. -/
theorem out_stage : outAt m c = val_main_v30 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) := by
  funext i
  refine (out_at m c (colPoint i) (i 0) (i 1) ⟨(i 2).val % 128, Nat.mod_lt _ (by decide)⟩).trans (congrArg _ (funext fun a => Fin.ext ?_))
  fin_cases a
  · rfl
  · rfl
  · show (i 2).val / 128 * 128 + (i 2).val % 128 = (i 2).val
    omega

/-- The idealized program's guide loss is the reference's. -/
theorem loss_stage : (fun _ => k0_pay5 (F := Ideal) (k0_pay15 (masks m c)) (k0_pay16 (logits m c)))
    = val_main_v36 (F := Ideal) (m ((c.tc : Thread nD τ).loc main_arg1)) (m ((c.tc : Thread nD τ).loc main_arg2)) := by
  funext i
  unfold logits masks
  rw [logits_all, masks_all]
  exact guide_eq _ _ i

/-- The reference's output, from arguments that agree, is the idealized program's. -/
theorem out_equal (x : FVec Ideal S16x64x3x512 .f32) (lg : FVec Ideal S16x8 .f32) (mk : IVec S16x8 32)
    (w : FVec Ideal S8x1536x1024 .f32) (bias : FVec Ideal S8x1024 .f32)
    (h0 : x = m ((c.tc : Thread nD τ).loc main_arg0)) (h1 : lg = m ((c.tc : Thread nD τ).loc main_arg1))
    (h2 : mk = m ((c.tc : Thread nD τ).loc main_arg2)) (h3 : w = m ((c.tc : Thread nD τ).loc main_arg3))
    (h4 : bias = m ((c.tc : Thread nD τ).loc main_arg4)) : val_main_v30 (F := Ideal) x lg mk w bias = outAt m c := by
  subst h0 h1 h2 h3 h4
  exact (out_stage m c).symm

/-- The reference's guide loss, from arguments that agree, is the idealized program's. -/
theorem loss_equal (lg : FVec Ideal S16x8 .f32) (mk : IVec S16x8 32)
    (h1 : lg = m ((c.tc : Thread nD τ).loc main_arg1)) (h2 : mk = m ((c.tc : Thread nD τ).loc main_arg2)) :
    val_main_v36 (F := Ideal) lg mk = fun _ => k0_pay5 (F := Ideal) (k0_pay15 (masks m c)) (k0_pay16 (logits m c)) := by
  subst h1 h2
  exact (loss_stage m c).symm

end Cert.MoE

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.Results
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The compiled program ends with its arguments unchanged and every counter at zero: its text is the idealized program's, whose
    run holds at any float values. -/
theorem compiled_frame : Cert.quiescent_Kernel := fun m g _ =>
  Cert.MoE.run_same _ _
    ((θ_run Cert.KernelIdeal.defs _ _).mono (fun _ h => ⟨fun c => (h.1 c).2.2, h.2⟩) (Cert.MoE.run_results (F := Bits) m g))

/-- The idealized program ends with its arguments unchanged and every counter at zero. -/
theorem ideal_frame : Cert.quiescent_KernelIdeal := fun m g _ =>
  (θ_run Cert.KernelIdeal.defs _ _).mono (fun _ h => ⟨fun c => (h.1 c).2.2, h.2⟩) (Cert.MoE.run_results m g)

/-- The reference ends with its arguments unchanged; it has no counter. -/
theorem reference_frame : Cert.quiescent_ReferenceIdeal := fun m g _ =>
  (θ_run Cert.ReferenceIdeal.defs _ _).mono (fun _ h => ⟨fun c => (h c).2.2, sem_eq_zero_of_no_sems (by decide) _⟩)
    (Cert.ReferenceIdeal.Value.run m g)

/-- From arguments that agree, the idealized program's results are the reference's. -/
theorem equal_results : Cert.algebraic_KernelIdeal_ReferenceIdeal := fun m g m' g' _ h =>
  ⟨fun c => Cert.MoE.outAt m c, fun c _ => Cert.KernelIdeal.Gen.k0_pay5 (Cert.KernelIdeal.Gen.k0_pay15 (Cert.MoE.masks m c)) (Cert.KernelIdeal.Gen.k0_pay16 (Cert.MoE.logits m c)),
    (θ_run Cert.KernelIdeal.defs _ _).mono (fun _ h => h.1) (Cert.MoE.run_results m g),
    (θ_run Cert.ReferenceIdeal.defs _ _).mono (fun _ hr c =>
      ⟨(hr c).1.trans ((Cert.ReferenceIdeal.Read.val_main_v30_eq _ _ _ _ _).trans (Cert.MoE.out_equal m c _ _ _ _ _ (h c).1 (h c).2.1 (h c).2.2.1 (h c).2.2.2.1 (h c).2.2.2.2)),
       (hr c).2.1.trans ((Cert.ReferenceIdeal.Read.val_main_v36_eq _ _).trans (Cert.MoE.loss_equal m c _ _ (h c).2.1 (h c).2.2.1)), (hr c).2.2⟩) (Cert.ReferenceIdeal.Value.run m' g')⟩

/-- Every claim of the certificate. -/
theorem claim : Cert.Claim :=
  ⟨Cert.Kernel.Gen.facts, Cert.KernelIdeal.Gen.facts, Cert.ReferenceIdeal.Gen.facts,
    compiled_frame, ideal_frame, reference_frame, trivial, equal_results⟩

end Cert.Proof

end
